-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickRefIdeal (m : (ℓ : Loc Cert.StickRefIdeal.nD Cert.StickRefIdeal.τ Cert.StickRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v52) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Stick_StickIdeal : Prop :=
  True

def algebraic_StickIdeal_StickRefIdeal [hStickIdeal : Cert.StickIdeal.Facts] [hStickRefIdeal : Cert.StickRefIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v39) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v32) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v15) = v0 c
          ∧ r.2.mem ((c.tc : Thread Cert.InprojRefIdeal.nD Cert.InprojRefIdeal.τ).loc Cert.InprojRefIdeal.main_v16) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v4_0)) (v1 : (c : Dev Cert.OutprojIdeal.nD) → Buf (Elt Ideal) ((c.tc : Thread Cert.OutprojIdeal.nD Cert.OutprojIdeal.τ).loc Cert.OutprojIdeal.main_v4_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4_0) = v0 c
          ∧ r.2.mem ((c.tc : Thread Cert.OutprojIdeal.nD Cert.OutprojIdeal.τ).loc Cert.OutprojIdeal.main_v4_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_v16) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v11) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_v7) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Dil_DilIdeal : Prop :=
  IdealRules.named_const.Statement Cert.DilIdeal.κ "mask" .f32 0xF149F2CA#32 ⊥

def Claim : Prop :=
  ∃ (hDown : Cert.Down.Facts) (hDownIdeal : Cert.DownIdeal.Facts) (hDownRefIdeal : Cert.DownRefIdeal.Facts) (hFox : Cert.Fox.Facts) (hFoxIdeal : Cert.FoxIdeal.Facts) (hFoxRefIdeal : Cert.FoxRefIdeal.Facts) (hStick : Cert.Stick.Facts) (hStickIdeal : Cert.StickIdeal.Facts) (hStickRefIdeal : Cert.StickRefIdeal.Facts) (hUp : Cert.Up.Facts) (hUpIdeal : Cert.UpIdeal.Facts) (hUpRefIdeal : Cert.UpRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hDil : Cert.Dil.Facts) (hDilIdeal : Cert.DilIdeal.Facts),
    quiescent_Down (hDown := hDown)
    ∧ quiescent_DownIdeal (hDownIdeal := hDownIdeal)
    ∧ quiescent_DownRefIdeal (hDownRefIdeal := hDownRefIdeal)
    ∧ quiescent_Fox (hFox := hFox)
    ∧ quiescent_FoxIdeal (hFoxIdeal := hFoxIdeal)
    ∧ quiescent_FoxRefIdeal (hFoxRefIdeal := hFoxRefIdeal)
    ∧ quiescent_Stick (hStick := hStick)
    ∧ quiescent_StickIdeal (hStickIdeal := hStickIdeal)
    ∧ quiescent_StickRefIdeal (hStickRefIdeal := hStickRefIdeal)
    ∧ quiescent_Up (hUp := hUp)
    ∧ quiescent_UpIdeal (hUpIdeal := hUpIdeal)
    ∧ quiescent_UpRefIdeal (hUpRefIdeal := hUpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Norm (hNorm := hNorm)
    ∧ quiescent_NormIdeal (hNormIdeal := hNormIdeal)
    ∧ quiescent_NormRefIdeal (hNormRefIdeal := hNormRefIdeal)
    ∧ quiescent_Gate (hGate := hGate)
    ∧ quiescent_GateIdeal (hGateIdeal := hGateIdeal)
    ∧ quiescent_GateRefIdeal (hGateRefIdeal := hGateRefIdeal)
    ∧ quiescent_Dil (hDil := hDil)
    ∧ quiescent_DilIdeal (hDilIdeal := hDilIdeal)
    ∧ preserves_Down_DownIdeal
    ∧ algebraic_DownIdeal_DownRefIdeal (hDownIdeal := hDownIdeal) (hDownRefIdeal := hDownRefIdeal)
    ∧ preserves_Fox_FoxIdeal
    ∧ algebraic_FoxIdeal_FoxRefIdeal (hFoxIdeal := hFoxIdeal) (hFoxRefIdeal := hFoxRefIdeal)
    ∧ preserves_Stick_StickIdeal
    ∧ algebraic_StickIdeal_StickRefIdeal (hStickIdeal := hStickIdeal) (hStickRefIdeal := hStickRefIdeal)
    ∧ preserves_Up_UpIdeal
    ∧ algebraic_UpIdeal_UpRefIdeal (hUpIdeal := hUpIdeal) (hUpRefIdeal := hUpRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Norm_NormIdeal
    ∧ algebraic_NormIdeal_NormRefIdeal (hNormIdeal := hNormIdeal) (hNormRefIdeal := hNormRefIdeal)
    ∧ preserves_Gate_GateIdeal
    ∧ algebraic_GateIdeal_GateRefIdeal (hGateIdeal := hGateIdeal) (hGateRefIdeal := hGateRefIdeal)
    ∧ preserves_Dil_DilIdeal
-- ==== Down.lean ====
abbrev S16384x2048 : Shape := ⟨2, ![16384, 2048]⟩
abbrev S16384x5632 : Shape := ⟨2, ![16384, 5632]⟩
abbrev S5632x2048 : Shape := ⟨2, ![5632, 2048]⟩
abbrev S1024x512 : Shape := ⟨2, ![1024, 512]⟩
abbrev S1024x5632 : Shape := ⟨2, ![1024, 5632]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S5632x2048, .f32⟩
  | .hbm, ⟨3, _⟩ => ⟨S5632x2048, .bf16⟩
  | .hbm, ⟨4, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S1024x5632, .bf16⟩
  | .local _ .vmem, ⟨3, _⟩ => ⟨S1024x5632, .bf16⟩
  | .local _ .vmem, ⟨4, _⟩ => ⟨S5632x512, .bf16⟩
  | .local _ .vmem, ⟨5, _⟩ => ⟨S5632x512, .bf16⟩
  | .local _ .vmem, ⟨6, _⟩ => ⟨S1024x512, .f32⟩
  | .local _ .vmem, ⟨7, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16384x2048 : Shape := ⟨2, ![16384, 2048]⟩
abbrev S16384x5632 : Shape := ⟨2, ![16384, 5632]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S5632x2048, .f32⟩
  | .hbm, ⟨3, _⟩ => ⟨S16384x5632, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Fox.lean ====
abbrev S48x16384x128 : Shape := ⟨3, ![48, 16384, 128]⟩
abbrev S16384x128 : Shape := ⟨2, ![16384, 128]⟩
abbrev S8x8x2048 : Shape := ⟨3, ![8, 8, 2048]⟩
abbrev S16x128 : Shape := ⟨2, ![16, 128]⟩
abbrev S16384x640 : Shape := ⟨2, ![16384, 640]⟩
abbrev S1x2048x128 : Shape := ⟨3, ![1, 2048, 128]⟩
abbrev S2048x128 : Shape := ⟨2, ![2048, 128]⟩
abbrev S1x8x2048 : Shape := ⟨3, ![1, 8, 2048]⟩
abbrev S256x2048 : Shape := ⟨2, ![256, 2048]⟩
abbrev S1x128 : Shape := ⟨2, ![1, 128]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S1x512x128 : Shape := ⟨3, ![1, 512, 128]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S256x768 : Shape := ⟨2, ![256, 768]⟩
abbrev S1x768x128 : Shape := ⟨3, ![1, 768, 128]⟩
abbrev S768x128 : Shape := ⟨2, ![768, 128]⟩
abbrev S256x1024 : Shape := ⟨2, ![256, 1024]⟩
abbrev S1x1024x128 : Shape := ⟨3, ![1, 1024, 128]⟩
abbrev S1024x128 : Shape := ⟨2, ![1024, 128]⟩
abbrev S256x1280 : Shape := ⟨2, ![256, 1280]⟩
abbrev S1x1280x128 : Shape := ⟨3, ![1, 1280, 128]⟩
abbrev S1280x128 : Shape := ⟨2, ![1280, 128]⟩
abbrev S256x1536 : Shape := ⟨2, ![256, 1536]⟩
abbrev S1x1536x128 : Shape := ⟨3, ![1, 1536, 128]⟩
abbrev S1536x128 : Shape := ⟨2, ![1536, 128]⟩
abbrev S256x1792 : Shape := ⟨2, ![256, 1792]⟩
abbrev S1x1792x128 : Shape := ⟨3, ![1, 1792, 128]⟩
abbrev S1792x128 : Shape := ⟨2, ![1792, 128]⟩

abbrev nBuf : Space → Nat
  | .hbm => 5
  | .vmem => 15
  | .smem => 0
  | _ => 0

abbrev bufTy : (tb : Table) → Fin (tcTables nBuf tb) → BufTy
  | .hbm, ⟨0, _⟩ => ⟨S48x16384x128, .bf16⟩
  | .hbm, ⟨1, _⟩ => ⟨S16384x128, .f32⟩
  | .hbm, ⟨2, _⟩ => ⟨S8x8x2048, .f32⟩
  | .hbm, ⟨3, _⟩ => ⟨S16x128, .f32⟩
  | .hbm, ⟨4, _⟩ => ⟨S16384x640, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S16x128, .f32⟩
  | .local _ .vmem, ⟨11, _⟩ => ⟨S2048x128, .bf16⟩
  | .local _ .vmem, ⟨12, _⟩ => ⟨S2048x128, .bf16⟩
  | .local _ .vmem, ⟨13, _⟩ => ⟨S256x2048, .f32⟩
  | .local _ .vmem, ⟨14, _⟩ => ⟨S256x2048, .bf16⟩
  | _, _ => ⟨S48x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 5], ![false, false]⟩

def k0_off1 (i : grid0.Coords) : Fin 2 → Nat :=
  let c11_i32 : BitVec 32 := 11#32
  let arg1 : BitVec 32 := BitVec.ofNat 32 (i 1).val
  let v0 : BitVec 32 := Scalar.addi c11_i32 arg1
  let v1 : Index := Scalar.indexCast v0
  let c0 : Index := 0#32
  ![v1.toNat, 0]
def k0_off2 (i : grid0.Coords) : Fin 3 → Nat :=
  let c0_10 : Index := 0#32
  let arg1 : BitVec 32 := BitVec.ofNat 32 (i 1).val
  let v23 : Index := Scalar.indexCast arg1
  let c0_11 : Index := 0#32
  ![0, v23.toNat, 0]
def k0_off3 (i : grid0.Coords) : Fin 3 → Nat :=
  let c0_43 : Index := 0#32
  let arg1 : BitVec 32 := BitVec.ofNat 32 (i 1).val
  let v83 : Index := Scalar.indexCast arg1
  let c0_44 : Index := 0#32
  ![0, v83.toNat, 0]
def k0_off4 (i : grid0.Coords) : Fin 3 → Nat :=
  let c0_85 : Index := 0#32
  let arg1 : BitVec 32 := BitVec.ofNat 32 (i 1).val
  let v161 : Index := Scalar.indexCast arg1
  let c512_86 : Index := 512#32
  ![0, v161.toNat, 512]
def k0_off5 (i : grid0.Coords) : Fin 3 → Nat :=
  let c0_132 : Index := 0#32
  let arg1 : BitVec 32 := BitVec.ofNat 32 (i 1).val
  let v248 : Index := Scalar.indexCast arg1
  let c512_133 : Index := 512#32
  ![0, v248.toNat, 512]
def k0_off6 (i : grid0.Coords) : Fin 3 → Nat :=
  let c0_188 : Index := 0#32
  let arg1 : BitVec 32 := BitVec.ofNat 32 (i 1).val
  let v354 : Index := Scalar.indexCast arg1
  let c1024_189 : Index := 1024#32
  ![0, v354.toNat, 1024]
def k0_off7 (i : grid0.Coords) : Fin 3 → Nat :=
  let c0_249 : Index := 0#32
  let arg1 : BitVec 32 := BitVec.ofNat 32 (i 1).val
  let v468 : Index := Scalar.indexCast arg1
  let c1024_250 : Index := 1024#32
  ![0, v468.toNat, 1024]
def k0_off8 (i : grid0.Coords) : Fin 3 → Nat :=
  let c0_319 : Index := 0#32
  let arg1 : BitVec 32 := BitVec.ofNat 32 (i 1).val
  let v601 : Index := Scalar.indexCast arg1
  let c1536_320 : Index := 1536#32
  ![0, v601.toNat, 1536]
def k0_off9 (i : grid0.Coords) : Fin 3 → Nat :=
  let c0_394 : Index := 0#32
  let arg1 : BitVec 32 := BitVec.ofNat 32 (i 1).val
  let v742 : Index := Scalar.indexCast arg1
  let c1536_395 : Index := 1536#32
  ![0, v742.toNat, 1536]
def cc0_transform_0 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S48x16384x128 : Shape := ⟨3, ![48, 16384, 128]⟩
abbrev S16384x128 : Shape := ⟨2, ![16384, 128]⟩
abbrev S8x8x2048 : Shape := ⟨3, ![8, 8, 2048]⟩
abbrev S16x128 : Shape := ⟨2, ![16, 128]⟩
abbrev S48x8x2048x128 : Shape := ⟨4, ![48, 8, 2048, 128]⟩
abbrev S8x48x2048x128 : Shape := ⟨4, ![8, 48, 2048, 128]⟩
abbrev S8x5x2048x128 : Shape := ⟨4, ![8, 5, 2048, 128]⟩
abbrev S8x2048x128 : Shape := ⟨3, ![8, 2048, 128]⟩
abbrev S8x2048x5 : Shape := ⟨3, ![8, 2048, 5]⟩
abbrev S8x5x2048 : Shape := ⟨3, ![8, 5, 2048]⟩
abbrev S8x5x2048x2048 : Shape := ⟨4, ![8, 5, 2048, 2048]⟩
abbrev S8x5x2048x1 : Shape := ⟨4, ![8, 5, 2048, 1]⟩
abbrev S8x5x1x2048 : Shape := ⟨4, ![8, 5, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S5x128 : Shape := ⟨2, ![5, 128]⟩
abbrev S1x5x1x128 : Shape := ⟨4, ![1, 5, 1, 128]⟩
abbrev S8x2048x5x128 : Shape := ⟨4, ![8, 2048, 5, 128]⟩
abbrev S16384x640 : Shape := ⟨2, ![16384, 640]⟩

abbrev nBuf : Space → Nat
  | .hbm => 67
  | .vmem => 0
  | .smem => 0
  | _ => 0

abbrev bufTy : (tb : Table) → Fin (tcTables nBuf tb) → BufTy
  | .hbm, ⟨0, _⟩ => ⟨S48x16384x128, .bf16⟩
  | .hbm, ⟨1, _⟩ => ⟨S16384x128, .f32⟩
  | .hbm, ⟨2, _⟩ => ⟨S8x8x2048, .f32⟩
  | .hbm, ⟨3, _⟩ => ⟨S16x128, .f32⟩
  | .hbm, ⟨4, _⟩ => ⟨S48x16384x128, .f32⟩
  | .hbm, ⟨5, _⟩ => ⟨S48x8x2048x128, .f32⟩
  | .hbm, ⟨6, _⟩ => ⟨S8x48x2048x128, .f32⟩
  | .hbm, ⟨7, _⟩ => ⟨S8x5x2048x128, .f32⟩
  | .hbm, ⟨8, _⟩ => ⟨S8x5x2048x128, .f32⟩
  | .hbm, ⟨9, _⟩ => ⟨S8x5x2048x128, .f32⟩
  | .hbm, ⟨10, _⟩ => ⟨S8x2048x128, .f32⟩
  | .hbm, ⟨11, _⟩ => ⟨S8x2048x5, .f32⟩
  | .hbm, ⟨12, _⟩ => ⟨S8x5x2048, .f32⟩
  | .hbm, ⟨13, _⟩ => ⟨S8x5x2048, .f32⟩
  | .hbm, ⟨14, _⟩ => ⟨S8x5x2048x2048, .f32⟩
  | .hbm, ⟨15, _⟩ => ⟨S8x5x2048x1, .f32⟩
  | .hbm, ⟨16, _⟩ => ⟨S8x5x2048x2048, .f32⟩
  | .hbm, ⟨17, _⟩ => ⟨S8x5x2048x2048, .f32⟩
  | .hbm, ⟨18, _⟩ => ⟨S8x5x1x2048, .f32⟩
  | .hbm, ⟨19, _⟩ => ⟨S8x5x2048x2048, .f32⟩
  | .hbm, ⟨20, _⟩ => ⟨S8x5x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x5x2048x2048, .i1⟩
  | .hbm, ⟨30, _⟩ => ⟨S8x5x2048x2048, .f32⟩
  | .hbm, ⟨31, _⟩ => ⟨S8x5x2048x2048, .f32⟩
  | .hbm, ⟨32, _⟩ => ⟨S_, .f32⟩
  | .hbm, ⟨33, _⟩ => ⟨S8x5x2048, .f32⟩
  | .hbm, ⟨34, _⟩ => ⟨S_, .f32⟩
  | .hbm, ⟨35, _⟩ => ⟨S8x5x2048, .f32⟩
  | .hbm, ⟨36, _⟩ => ⟨S8x5x2048, .f32⟩
  | .hbm, ⟨37, _⟩ => ⟨S8x5x2048x1, .f32⟩
  | .hbm, ⟨38, _⟩ => ⟨S8x5x2048x2048, .f32⟩
  | .hbm, ⟨39, _⟩ => ⟨S8x5x2048x2048, .f32⟩
  | .hbm, ⟨40, _⟩ => ⟨S8x5x2048x2048, .f32⟩
  | .hbm, ⟨41, _⟩ => ⟨S_, .f32⟩
  | .hbm, ⟨42, _⟩ => ⟨S8x5x2048, .f32⟩
  | .hbm, ⟨43, _⟩ => ⟨S8x5x2048x1, .f32⟩
  | .hbm, ⟨44, _⟩ => ⟨S8x5x2048x2048, .f32⟩
  | .hbm, ⟨45, _⟩ => ⟨S8x5x2048x2048, .f32⟩
  | .hbm, ⟨46, _⟩ => ⟨S8x5x2048x128, .f32⟩
  | .hbm, ⟨47, _⟩ => ⟨S8x5x2048x128, .f32⟩
  | .hbm, ⟨48, _⟩ => ⟨S_, .f32⟩
  | .hbm, ⟨49, _⟩ => ⟨S8x5x2048, .f32⟩
  | .hbm, ⟨50, _⟩ => ⟨S8x5x2048x1, .f32⟩
  | .hbm, ⟨51, _⟩ => ⟨S_, .f32⟩
  | .hbm, ⟨52, _⟩ => ⟨S8x5x2048x1, .f32⟩
  | .hbm, ⟨53, _⟩ => ⟨S8x5x2048x1, .f32⟩
  | .hbm, ⟨54, _⟩ => ⟨S_, .f32⟩
  | .hbm, ⟨55, _⟩ => ⟨S8x5x2048x1, .f32⟩
  | .hbm, ⟨56, _⟩ => ⟨S8x5x2048x1, .f32⟩
  | .hbm, ⟨57, _⟩ => ⟨S8x5x2048x1, .f32⟩
  | .hbm, ⟨58, _⟩ => ⟨S8x5x2048x128, .f32⟩
  | .hbm, ⟨59, _⟩ => ⟨S8x5x2048x128, .f32⟩
  | .hbm, ⟨60, _⟩ => ⟨S5x128, .f32⟩
  | .hbm, ⟨61, _⟩ => ⟨S1x5x1x128, .f32⟩
  | .hbm, ⟨62, _⟩ => ⟨S8x5x2048x128, .f32⟩
  | .hbm, ⟨63, _⟩ => ⟨S8x5x2048x128, .f32⟩
  | .hbm, ⟨64, _⟩ => ⟨S8x2048x5x128, .f32⟩
  | .hbm, ⟨65, _⟩ => ⟨S16384x640, .f32⟩
  | .hbm, ⟨66, _⟩ => ⟨S16384x640, .bf16⟩
  | _, _ => ⟨S48x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Stick.lean ====
abbrev S48x16384x128 : Shape := ⟨3, ![48, 16384, 128]⟩
abbrev S16x128 : Shape := ⟨2, ![16, 128]⟩
abbrev S16384x640 : Shape := ⟨2, ![16384, 640]⟩
abbrev S1x2048x128 : Shape := ⟨3, ![1, 2048, 128]⟩
abbrev S2048x128 : Shape := ⟨2, ![2048, 128]⟩
abbrev S256x2048 : Shape := ⟨2, ![256, 2048]⟩
abbrev S1x128 : Shape := ⟨2, ![1, 128]⟩
abbrev S256x256 : Shape := ⟨2, ![256, 256]⟩
abbrev S512x256 : Shape := ⟨2, ![512, 256]⟩
abbrev S1x256x128 : Shape := ⟨3, ![1, 256, 128]⟩
abbrev S256x128 : Shape := ⟨2, ![256, 128]⟩
abbrev S256x1 : Shape := ⟨2, ![256, 1]⟩
abbrev S256x512 : Shape := ⟨2, ![256, 512]⟩
abbrev S256 : Shape := ⟨1, ![256]⟩
abbrev S1x512x128 : Shape := ⟨3, ![1, 512, 128]⟩
abbrev S512x128 : Shape := ⟨2, ![512, 128]⟩
abbrev S256x768 : Shape := ⟨2, ![256, 768]⟩
abbrev S1x768x128 : Shape := ⟨3, ![1, 768, 128]⟩
abbrev S768x128 : Shape := ⟨2, ![768, 128]⟩
abbrev S256x1024 : Shape := ⟨2, ![256, 1024]⟩
abbrev S1x1024x128 : Shape := ⟨3, ![1, 1024, 128]⟩
abbrev S1024x128 : Shape := ⟨2, ![1024, 128]⟩
abbrev S256x1280 : Shape := ⟨2, ![256, 1280]⟩
abbrev S1x1280x128 : Shape := ⟨3, ![1, 1280, 128]⟩
abbrev S1280x128 : Shape := ⟨2, ![1280, 128]⟩
abbrev S256x1536 : Shape := ⟨2, ![256, 1536]⟩
abbrev S1x1536x128 : Shape := ⟨3, ![1, 1536, 128]⟩
abbrev S1536x128 : Shape := ⟨2, ![1536, 128]⟩
abbrev S256x1792 : Shape := ⟨2, ![256, 1792]⟩
abbrev S1x1792x128 : Shape := ⟨3, ![1, 1792, 128]⟩
abbrev S1792x128 : Shape := ⟨2, ![1792, 128]⟩

abbrev nBuf : Space → Nat
  | .hbm => 3
  | .vmem => 10
  | .smem => 0
  | _ => 0

abbrev bufTy : (tb : Table) → Fin (tcTables nBuf tb) → BufTy
  | .hbm, ⟨0, _⟩ => ⟨S48x16384x128, .bf16⟩
  | .hbm, ⟨1, _⟩ => ⟨S16x128, .f32⟩
  | .hbm, ⟨2, _⟩ => ⟨S16384x640, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S16x128, .f32⟩
  | .local _ .vmem, ⟨7, _⟩ => ⟨S2048x128, .bf16⟩
  | .local _ .vmem, ⟨8, _⟩ => ⟨S2048x128, .bf16⟩
  | .local _ .vmem, ⟨9, _⟩ => ⟨S256x2048, .bf16⟩
  | _, _ => ⟨S48x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_off1 (i : grid0.Coords) : Fin 2 → Nat :=
  let c6_i32 : BitVec 32 := 6#32
  let arg1 : BitVec 32 := BitVec.ofNat 32 (i 1).val
  let v0 : BitVec 32 := Scalar.addi c6_i32 arg1
  let v1 : Index := Scalar.indexCast v0
  let c0 : Index := 0#32
  ![v1.toNat, 0]
def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickRefIdeal.lean ====
abbrev S48x16384x128 : Shape := ⟨3, ![48, 16384, 128]⟩
abbrev S16x128 : Shape := ⟨2, ![16, 128]⟩
abbrev S48x8x2048x128 : Shape := ⟨4, ![48, 8, 2048, 128]⟩
abbrev S8x48x2048x128 : Shape := ⟨4, ![8, 48, 2048, 128]⟩
abbrev S8x5x2048x128 : Shape := ⟨4, ![8, 5, 2048, 128]⟩
abbrev S8x5x2048x2048 : Shape := ⟨4, ![8, 5, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x5x2048 : Shape := ⟨3, ![8, 5, 2048]⟩
abbrev S8x5x2048x1 : Shape := ⟨4, ![8, 5, 2048, 1]⟩
abbrev S5x128 : Shape := ⟨2, ![5, 128]⟩
abbrev S1x5x1x128 : Shape := ⟨4, ![1, 5, 1, 128]⟩
abbrev S8x2048x5x128 : Shape := ⟨4, ![8, 2048, 5, 128]⟩
abbrev S16384x640 : Shape := ⟨2, ![16384, 640]⟩

abbrev nBuf : Space → Nat
  | .hbm => 85
  | .vmem => 0
  | .smem => 0
  | _ => 0

abbrev bufTy : (tb : Table) → Fin (tcTables nBuf tb) → BufTy
  | .hbm, ⟨0, _⟩ => ⟨S48x16384x128, .bf16⟩
  | .hbm, ⟨1, _⟩ => ⟨S16x128, .f32⟩
  | .hbm, ⟨2, _⟩ => ⟨S48x16384x128, .f32⟩
  | .hbm, ⟨3, _⟩ => ⟨S48x8x2048x128, .f32⟩
  | .hbm, ⟨4, _⟩ => ⟨S8x48x2048x128, .f32⟩
  | .hbm, ⟨5, _⟩ => ⟨S8x5x2048x128, .f32⟩
  | .hbm, ⟨6, _⟩ => ⟨S8x5x2048x128, .f32⟩
  | .hbm, ⟨7, _⟩ => ⟨S8x5x2048x128, .f32⟩
  | .hbm, ⟨8, _⟩ => ⟨S8x5x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S8x5x2048x2048, .f32⟩
  | .hbm, ⟨16, _⟩ => ⟨S8x5x2048x2048, .f32⟩
  | .hbm, ⟨17, _⟩ => ⟨S_, .f32⟩
  | .hbm, ⟨18, _⟩ => ⟨S8x5x2048x2048, .f32⟩
  | .hbm, ⟨19, _⟩ => ⟨S8x5x2048x2048, .f32⟩
  | .hbm, ⟨20, _⟩ => ⟨S8x5x2048x2048, .f32⟩
  | .hbm, ⟨21, _⟩ => ⟨S8x5x2048x2048, .f32⟩
  | .hbm, ⟨22, _⟩ => ⟨S8x5x2048x2048, .i1⟩
  | .hbm, ⟨23, _⟩ => ⟨S8x5x2048x2048, .f32⟩
  | .hbm, ⟨24, _⟩ => ⟨S8x5x2048x2048, .f32⟩
  | .hbm, ⟨25, _⟩ => ⟨S8x5x2048x2048, .f32⟩
  | .hbm, ⟨26, _⟩ => ⟨S8x5x2048x2048, .f32⟩
  | .hbm, ⟨27, _⟩ => ⟨S8x5x2048x2048, .f32⟩
  | .hbm, ⟨28, _⟩ => ⟨S8x5x2048x2048, .f32⟩
  | .hbm, ⟨29, _⟩ => ⟨S8x5x2048x2048, .f32⟩
  | .hbm, ⟨30, _⟩ => ⟨S8x5x2048x2048, .f32⟩
  | .hbm, ⟨31, _⟩ => ⟨S8x5x2048x2048, .f32⟩
  | .hbm, ⟨32, _⟩ => ⟨S_, .f32⟩
  | .hbm, ⟨33, _⟩ => ⟨S_, .f32⟩
  | .hbm, ⟨34, _⟩ => ⟨S8x5x2048x2048, .i1⟩
  | .hbm, ⟨35, _⟩ => ⟨S8x5x2048x2048, .f32⟩
  | .hbm, ⟨36, _⟩ => ⟨S8x5x2048x2048, .f32⟩
  | .hbm, ⟨37, _⟩ => ⟨S_, .f32⟩
  | .hbm, ⟨38, _⟩ => ⟨S_, .f32⟩
  | .hbm, ⟨39, _⟩ => ⟨S8x5x2048x2048, .f32⟩
  | .hbm, ⟨40, _⟩ => ⟨S8x5x2048x2048, .f32⟩
  | .hbm, ⟨41, _⟩ => ⟨S8x5x2048x2048, .f32⟩
  | .hbm, ⟨42, _⟩ => ⟨S_, .f32⟩
  | .hbm, ⟨43, _⟩ => ⟨S8x5x2048x2048, .f32⟩
  | .hbm, ⟨44, _⟩ => ⟨S8x5x2048x2048, .f32⟩
  | .hbm, ⟨45, _⟩ => ⟨S8x5x2048x2048, .f32⟩
  | .hbm, ⟨46, _⟩ => ⟨S8x5x2048x2048, .f32⟩
  | .hbm, ⟨47, _⟩ => ⟨S8x5x2048x2048, .i1⟩
  | .hbm, ⟨48, _⟩ => ⟨S8x5x2048x2048, .f32⟩
  | .hbm, ⟨49, _⟩ => ⟨S8x5x2048x2048, .f32⟩
  | .hbm, ⟨50, _⟩ => ⟨S8x5x2048x2048, .f32⟩
  | .hbm, ⟨51, _⟩ => ⟨S8x5x2048x2048, .f32⟩
  | .hbm, ⟨52, _⟩ => ⟨S8x5x2048x2048, .f32⟩
  | .hbm, ⟨53, _⟩ => ⟨S8x5x2048x2048, .f32⟩
  | .hbm, ⟨54, _⟩ => ⟨S8x5x2048x2048, .f32⟩
  | .hbm, ⟨55, _⟩ => ⟨S8x5x2048x2048, .f32⟩
  | .hbm, ⟨56, _⟩ => ⟨S8x5x2048x2048, .f32⟩
  | .hbm, ⟨57, _⟩ => ⟨S8x5x2048x2048, .f32⟩
  | .hbm, ⟨58, _⟩ => ⟨S8x5x2048x2048, .f32⟩
  | .hbm, ⟨59, _⟩ => ⟨S_, .f32⟩
  | .hbm, ⟨60, _⟩ => ⟨S_, .f32⟩
  | .hbm, ⟨61, _⟩ => ⟨S8x5x2048x2048, .i1⟩
  | .hbm, ⟨62, _⟩ => ⟨S8x5x2048x2048, .f32⟩
  | .hbm, ⟨63, _⟩ => ⟨S8x5x2048x2048, .f32⟩
  | .hbm, ⟨64, _⟩ => ⟨S8x5x2048x128, .f32⟩
  | .hbm, ⟨65, _⟩ => ⟨S8x5x2048x128, .f32⟩
  | .hbm, ⟨66, _⟩ => ⟨S_, .f32⟩
  | .hbm, ⟨67, _⟩ => ⟨S8x5x2048, .f32⟩
  | .hbm, ⟨68, _⟩ => ⟨S8x5x2048x1, .f32⟩
  | .hbm, ⟨69, _⟩ => ⟨S_, .f32⟩
  | .hbm, ⟨70, _⟩ => ⟨S8x5x2048x1, .f32⟩
  | .hbm, ⟨71, _⟩ => ⟨S8x5x2048x1, .f32⟩
  | .hbm, ⟨72, _⟩ => ⟨S_, .f32⟩
  | .hbm, ⟨73, _⟩ => ⟨S8x5x2048x1, .f32⟩
  | .hbm, ⟨74, _⟩ => ⟨S8x5x2048x1, .f32⟩
  | .hbm, ⟨75, _⟩ => ⟨S8x5x2048x1, .f32⟩
  | .hbm, ⟨76, _⟩ => ⟨S8x5x2048x128, .f32⟩
  | .hbm, ⟨77, _⟩ => ⟨S8x5x2048x128, .f32⟩
  | .hbm, ⟨78, _⟩ => ⟨S5x128, .f32⟩
  | .hbm, ⟨79, _⟩ => ⟨S1x5x1x128, .f32⟩
  | .hbm, ⟨80, _⟩ => ⟨S8x5x2048x128, .f32⟩
  | .hbm, ⟨81, _⟩ => ⟨S8x5x2048x128, .f32⟩
  | .hbm, ⟨82, _⟩ => ⟨S8x2048x5x128, .f32⟩
  | .hbm, ⟨83, _⟩ => ⟨S16384x640, .f32⟩
  | .hbm, ⟨84, _⟩ => ⟨S16384x640, .bf16⟩
  | _, _ => ⟨S48x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v14 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_1 : Ref sig .tc := ⟨.hbm, 66, rfl⟩
abbrev main_v24 : Ref sig .tc := ⟨.hbm, 67, rfl⟩
abbrev main_v25 : Ref sig .tc := ⟨.hbm, 68, rfl⟩
abbrev main_cst_2 : Ref sig .tc := ⟨.hbm, 69, rfl⟩
abbrev main_v26 : Ref sig .tc := ⟨.hbm, 70, rfl⟩
abbrev main_v27 : Ref sig .tc := ⟨.hbm, 71, rfl⟩
abbrev main_cst_3 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩

abbrev nD : Nat := 1
abbrev τ : Topo := Topo.v7x

variable {F : FTy → Type} [FloatOps F]
-- ==== Up.lean ====
abbrev S16384x2048 : Shape := ⟨2, ![16384, 2048]⟩
abbrev S2048x11264 : Shape := ⟨2, ![2048, 11264]⟩
abbrev S3x11264 : Shape := ⟨2, ![3, 11264]⟩
abbrev S1x11264 : Shape := ⟨2, ![1, 11264]⟩
abbrev S16384x5632 : Shape := ⟨2, ![16384, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S11x8x512 : Shape := ⟨3, ![11, 8, 512]⟩
abbrev S8x512 : Shape := ⟨2, ![8, 512]⟩
abbrev S1x8x512 : Shape := ⟨3, ![1, 8, 512]⟩
abbrev S1032x512 : Shape := ⟨2, ![1032, 512]⟩

abbrev nBuf : Space → Nat
  | .hbm => 6
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S2048x11264, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S11x8x512, .f32⟩
  | .local _ .vmem, ⟨17, _⟩ => ⟨S11x8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c2_i32 : BitVec 32 := 2#32
  let c0_i32 : BitVec 32 := 0#32
  let v7 : BitVec 1 := Scalar.cmpi .eq c2_i32 c0_i32
  let c1_i32 : BitVec 32 := 1#32
  let v8 : BitVec 32 := Scalar.select v7 c1_i32 c2_i32
  let v9 : BitVec 32 := Scalar.remsi arg0 v8
  let c0_i32_7 : BitVec 32 := 0#32
  let v11 : BitVec 1 := Scalar.cmpi .slt v9 c0_i32_7
  let c0_i32_8 : BitVec 32 := 0#32
  let v12 : BitVec 1 := Scalar.cmpi .slt v8 c0_i32_8
  let v13 : BitVec 1 := Scalar.xori v11 v12
  let c0_i32_6 : BitVec 32 := 0#32
  let v10 : BitVec 1 := Scalar.cmpi .ne v9 c0_i32_6
  let v14 : BitVec 1 := Scalar.andi v13 v10
  let v15 : BitVec 32 := Scalar.addi v9 v8
  let v16 : BitVec 32 := Scalar.select v14 v15 v9
  let c0_i32_9 : BitVec 32 := 0#32
  let v17 : BitVec 1 := Scalar.cmpi .eq v16 c0_i32_9
  let v18 : BitVec 32 := Scalar.extui v17
  let c0_i32_10 : BitVec 32 := 0#32
  let v19 : BitVec 1 := Scalar.cmpi .ne v18 c0_i32_10
  v19

def k0_off1 (i : grid0.Coords) : Fin 3 → Nat :=
  let arg1 : BitVec 32 := BitVec.ofNat 32 (i 1).val
  let v84 : Index := Scalar.indexCast arg1
  let c0_33 : Index := 0#32
  let c0_34 : Index := 0#32
  ![v84.toNat, 0, 0]
def k0_off2 (i : grid0.Coords) : Fin 3 → Nat :=
  let arg1 : BitVec 32 := BitVec.ofNat 32 (i 1).val
  let v20 : Index := Scalar.indexCast arg1
  let c0_11 : Index := 0#32
  let c0_12 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S16384x2048 : Shape := ⟨2, ![16384, 2048]⟩
abbrev S2048x11264 : Shape := ⟨2, ![2048, 11264]⟩
abbrev S3x11264 : Shape := ⟨2, ![3, 11264]⟩
abbrev S1x11264 : Shape := ⟨2, ![1, 11264]⟩
abbrev S16384x11264 : Shape := ⟨2, ![16384, 11264]⟩
abbrev S8x2048x11264 : Shape := ⟨3, ![8, 2048, 11264]⟩
abbrev S_ : Shape := ⟨0, ![]⟩
abbrev S8x2050x11264 : Shape := ⟨3, ![8, 2050, 11264]⟩
abbrev S11264 : Shape := ⟨1, ![11264]⟩
abbrev S1x1x11264 : Shape := ⟨3, ![1, 1, 11264]⟩
abbrev S8x2048x5632 : Shape := ⟨3, ![8, 2048, 5632]⟩
abbrev S16384x5632 : Shape := ⟨2, ![16384, 5632]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x11264, .f32⟩
  | .hbm, ⟨3, _⟩ => ⟨S1x11264, .f32⟩
  | .hbm, ⟨4, _⟩ => ⟨S16384x2048, .f32⟩
  | .hbm, ⟨5, _⟩ => ⟨S16384x11264, .f32⟩
  | .hbm, ⟨6, _⟩ => ⟨S8x2048x11264, .f32⟩
  | .hbm, ⟨7, _⟩ => ⟨S_, .i32⟩
  | .hbm, ⟨8, _⟩ => ⟨S_, .f32⟩
  | .hbm, ⟨9, _⟩ => ⟨S8x2050x11264, .f32⟩
  | .hbm, ⟨10, _⟩ => ⟨S1x11264, .f32⟩
  | .hbm, ⟨11, _⟩ => ⟨S11264, .f32⟩
  | .hbm, ⟨12, _⟩ => ⟨S8x2048x11264, .f32⟩
  | .hbm, ⟨13, _⟩ => ⟨S1x1x11264, .f32⟩
  | .hbm, ⟨14, _⟩ => ⟨S8x2048x11264, .f32⟩
  | .hbm, ⟨15, _⟩ => ⟨S8x2048x11264, .f32⟩
  | .hbm, ⟨16, _⟩ => ⟨S1x1x11264, .f32⟩
  | .hbm, ⟨17, _⟩ => ⟨S8x2048x11264, .f32⟩
  | .hbm, ⟨18, _⟩ => ⟨S8x2048x11264, .f32⟩
  | .hbm, ⟨19, _⟩ => ⟨S1x11264, .f32⟩
  | .hbm, ⟨20, _⟩ => ⟨S11264, .f32⟩
  | .hbm, ⟨21, _⟩ => ⟨S8x2048x11264, .f32⟩
  | .hbm, ⟨22, _⟩ => ⟨S1x1x11264, .f32⟩
  | .hbm, ⟨23, _⟩ => ⟨S8x2048x11264, .f32⟩
  | .hbm, ⟨24, _⟩ => ⟨S8x2048x11264, .f32⟩
  | .hbm, ⟨25, _⟩ => ⟨S8x2048x11264, .f32⟩
  | .hbm, ⟨26, _⟩ => ⟨S1x11264, .f32⟩
  | .hbm, ⟨27, _⟩ => ⟨S11264, .f32⟩
  | .hbm, ⟨28, _⟩ => ⟨S8x2048x11264, .f32⟩
  | .hbm, ⟨29, _⟩ => ⟨S1x1x11264, .f32⟩
  | .hbm, ⟨30, _⟩ => ⟨S8x2048x11264, .f32⟩
  | .hbm, ⟨31, _⟩ => ⟨S8x2048x11264, .f32⟩
  | .hbm, ⟨32, _⟩ => ⟨S8x2048x11264, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S_, .f32⟩
  | .hbm, ⟨38, _⟩ => ⟨S8x2048x5632, .f32⟩
  | .hbm, ⟨39, _⟩ => ⟨S8x2048x5632, .f32⟩
  | .hbm, ⟨40, _⟩ => ⟨S_, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S16384x5632, .f32⟩
  | .hbm, ⟨46, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Inproj.lean ====
abbrev S16384x2048 : Shape := ⟨2, ![16384, 2048]⟩
abbrev S1x2048 : Shape := ⟨2, ![1, 2048]⟩
abbrev S2048x6144 : Shape := ⟨2, ![2048, 6144]⟩
abbrev S2048x128 : Shape := ⟨2, ![2048, 128]⟩
abbrev S48x16384x128 : Shape := ⟨3, ![48, 16384, 128]⟩
abbrev S16384x128 : Shape := ⟨2, ![16384, 128]⟩
abbrev S1024x2048 : Shape := ⟨2, ![1024, 2048]⟩
abbrev S2048x1024 : Shape := ⟨2, ![2048, 1024]⟩
abbrev S8x1024x128 : Shape := ⟨3, ![8, 1024, 128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024x128 : Shape := ⟨3, ![1, 1024, 128]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .f32⟩
  | .hbm, ⟨3, _⟩ => ⟨S2048x128, .f32⟩
  | .hbm, ⟨4, _⟩ => ⟨S2048x6144, .bf16⟩
  | .hbm, ⟨5, _⟩ => ⟨S2048x128, .bf16⟩
  | .hbm, ⟨6, _⟩ => ⟨S48x16384x128, .bf16⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S8x1024x128, .bf16⟩
  | .local _ .vmem, ⟨7, _⟩ => ⟨S8x1024x128, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S16384x2048 : Shape := ⟨2, ![16384, 2048]⟩
abbrev S1x2048 : Shape := ⟨2, ![1, 2048]⟩
abbrev S2048x6144 : Shape := ⟨2, ![2048, 6144]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x48x128 : Shape := ⟨3, ![16384, 48, 128]⟩
abbrev S48x16384x128 : Shape := ⟨3, ![48, 16384, 128]⟩
abbrev S16384x128 : Shape := ⟨2, ![16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .f32⟩
  | .hbm, ⟨3, _⟩ => ⟨S2048x128, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x6144, .f32⟩
  | .hbm, ⟨20, _⟩ => ⟨S16384x48x128, .f32⟩
  | .hbm, ⟨21, _⟩ => ⟨S48x16384x128, .f32⟩
  | .hbm, ⟨22, _⟩ => ⟨S48x16384x128, .bf16⟩
  | .hbm, ⟨23, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Outproj.lean ====
abbrev S16384x2048 : Shape := ⟨2, ![16384, 2048]⟩
abbrev S16384x768 : Shape := ⟨2, ![16384, 768]⟩
abbrev S16384x640 : Shape := ⟨2, ![16384, 640]⟩
abbrev S2048x2048 : Shape := ⟨2, ![2048, 2048]⟩
abbrev S1x2048 : Shape := ⟨2, ![1, 2048]⟩
abbrev S768x2048 : Shape := ⟨2, ![768, 2048]⟩
abbrev S640x2048 : Shape := ⟨2, ![640, 2048]⟩
abbrev S512x2048 : Shape := ⟨2, ![512, 2048]⟩
abbrev S512x768 : Shape := ⟨2, ![512, 768]⟩
abbrev S512x640 : Shape := ⟨2, ![512, 640]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x768, .bf16⟩
  | .hbm, ⟨2, _⟩ => ⟨S16384x640, .bf16⟩
  | .hbm, ⟨3, _⟩ => ⟨S16384x640, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S768x2048, .bf16⟩
  | .hbm, ⟨8, _⟩ => ⟨S640x2048, .bf16⟩
  | .hbm, ⟨9, _⟩ => ⟨S640x2048, .bf16⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S512x640, .bf16⟩
  | .local _ .vmem, ⟨5, _⟩ => ⟨S512x640, .bf16⟩
  | .local _ .vmem, ⟨6, _⟩ => ⟨S512x640, .bf16⟩
  | .local _ .vmem, ⟨7, _⟩ => ⟨S512x640, .bf16⟩
  | .local _ .vmem, ⟨8, _⟩ => ⟨S768x2048, .bf16⟩
  | .local _ .vmem, ⟨9, _⟩ => ⟨S640x2048, .bf16⟩
  | .local _ .vmem, ⟨10, _⟩ => ⟨S640x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojRefIdeal.lean ====
abbrev S16384x2048 : Shape := ⟨2, ![16384, 2048]⟩
abbrev S16384x768 : Shape := ⟨2, ![16384, 768]⟩
abbrev S16384x640 : Shape := ⟨2, ![16384, 640]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x768, .bf16⟩
  | .hbm, ⟨2, _⟩ => ⟨S16384x640, .bf16⟩
  | .hbm, ⟨3, _⟩ => ⟨S16384x640, .bf16⟩
  | .hbm, ⟨4, _⟩ => ⟨S2048x2048, .f32⟩
  | .hbm, ⟨5, _⟩ => ⟨S1x2048, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Norm.lean ====
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Gate.lean ====
abbrev S16384x128 : Shape := ⟨2, ![16384, 128]⟩
abbrev S1x128 : Shape := ⟨2, ![1, 128]⟩
abbrev S8x8x2048 : Shape := ⟨3, ![8, 8, 2048]⟩
abbrev S2048x128 : Shape := ⟨2, ![2048, 128]⟩
abbrev S1x8x2048 : Shape := ⟨3, ![1, 8, 2048]⟩
abbrev S128x128 : Shape := ⟨2, ![128, 128]⟩
abbrev S8x128 : Shape := ⟨2, ![8, 128]⟩
abbrev S1x8x128 : Shape := ⟨3, ![1, 8, 128]⟩

abbrev nBuf : Space → Nat
  | .hbm => 4
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .hbm, ⟨3, _⟩ => ⟨S8x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S1x8x2048, .f32⟩
  | .local _ .vmem, ⟨6, _⟩ => ⟨S1x8x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S16384x128 : Shape := ⟨2, ![16384, 128]⟩
abbrev S1x128 : Shape := ⟨2, ![1, 128]⟩
abbrev S_ : Shape := ⟨0, ![]⟩
abbrev S8x2048x128 : Shape := ⟨3, ![8, 2048, 128]⟩
abbrev S8x2048x8 : Shape := ⟨3, ![8, 2048, 8]⟩
abbrev S8x8x2048 : Shape := ⟨3, ![8, 8, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .i1⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S8x2048x128, .f32⟩
  | .hbm, ⟨21, _⟩ => ⟨S_, .f32⟩
  | .hbm, ⟨22, _⟩ => ⟨S_, .f32⟩
  | .hbm, ⟨23, _⟩ => ⟨S8x2048x128, .f32⟩
  | .hbm, ⟨24, _⟩ => ⟨S16384x128, .f32⟩
  | .hbm, ⟨25, _⟩ => ⟨S8x2048x8, .f32⟩
  | .hbm, ⟨26, _⟩ => ⟨S8x8x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_v3 : Ref sig .tc := ⟨.hbm, 20, rfl⟩
abbrev main_call1_cst : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Dil.lean ====
abbrev S48x16384x128 : Shape := ⟨3, ![48, 16384, 128]⟩
abbrev S16x128 : Shape := ⟨2, ![16, 128]⟩
abbrev S6 : Shape := ⟨1, ![6]⟩
abbrev S16384x768 : Shape := ⟨2, ![16384, 768]⟩
abbrev S1x2048x128 : Shape := ⟨3, ![1, 2048, 128]⟩
abbrev S2048x128 : Shape := ⟨2, ![2048, 128]⟩
abbrev S3x2048x128 : Shape := ⟨3, ![3, 2048, 128]⟩
abbrev S1 : Shape := ⟨1, ![1]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x128 : Shape := ⟨2, ![1, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 14
  | .smem => 1
  | _ => 0

abbrev bufTy : (tb : Table) → Fin (tcTables nBuf tb) → BufTy
  | .hbm, ⟨0, _⟩ => ⟨S48x16384x128, .bf16⟩
  | .hbm, ⟨1, _⟩ => ⟨S16x128, .f32⟩
  | .hbm, ⟨2, _⟩ => ⟨S6, .f32⟩
  | .hbm, ⟨3, _⟩ => ⟨S16384x768, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S16x128, .f32⟩
  | .local _ .vmem, ⟨7, _⟩ => ⟨S2048x128, .bf16⟩
  | .local _ .vmem, ⟨8, _⟩ => ⟨S2048x128, .bf16⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S3x2048x128, .f32⟩
  | .local _ .vmem, ⟨13, _⟩ => ⟨S3x2048x128, .f32⟩
  | .local _ .smem, ⟨0, _⟩ => ⟨S6, .f32⟩
  | _, _ => ⟨S48x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 6], ![false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg1 : BitVec 32 := BitVec.ofNat 32 (i 1).val
  let v1833 : Index := Scalar.indexCast arg1
  let c0_867 : Index := 0#32
  ![v1833.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilIdeal.lean ====
variable {F : FTy → Type} [FloatOps F] [Named F]
def κ : String → Option EReal := fun
  | "mask" => some ⊥
  | _ => none
-- ==== Proof.DownValue.lean ====
/- The down projection of the feed-forward block: the array the kernel leaves is the reference's `x + h · w`. -/
module

public import proofs.«01_k».proof.Proof.Gen.DownIdeal.Value
public import proofs.«01_k».proof.Proof.Gen.DownRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- What the reference computes of its three arguments. -/
abbrev REF (x : FVec Ideal S16384x2048 .f32) (h : FVec Ideal S16384x5632 .bf16) (w : FVec Ideal S5632x2048 .f32) : FVec Ideal S16384x2048 .f32 :=
  addf x (Host.dotGeneral Cert.DownRefIdeal.dot_S16384x5632_S5632x2048_S16384x2048_1_0_0_1_n_n none (extf .f32 h Cert.DownRefIdeal.Gen.bitsLt_bf16_f32) w)

/-- Where each window's block sits at grid point `t`. -/
theorem idx : ∀ t : Fin cfg0.N, win0_0.index t = ![t.val / 4, t.val % 4] ∧ win0_1.index t = ![t.val / 4, 0]
    ∧ win0_2.index t = ![0, t.val % 4] ∧ win0_3.index t = ![t.val / 4, t.val % 4] :=
  (by decide +kernel : ∀ t : Fin grid0.N, _)

/-- One element of the block stored at point `t` is the reference's element there. -/
theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.DownIdeal.Value

end
-- ==== Proof.SoftmaxRow.lean ====
/- One query's softmax over its keys, as extended reals: the weights may be divided by their sum one by one, or the weighted
   sum once, when a root-mean-square normalisation follows. -/
module

public import Idealize.ShloMosaic.PureOps.Ideal
public import Idealize.ShloMosaic.Lib.Pointwise

@[expose] public section

noncomputable section

open Idealize.ShloMosaic

namespace Cert.SoftmaxRow

/-- The largest of a row's 2048 scores. -/
def mx (f : ℕ → EReal) : EReal := (Finset.range 2048).sup f

/-- A score's weight: its exponential, less the largest score. -/
def wt (f : ℕ → EReal) (k : ℕ) : EReal := Ideal.exp (f k - mx f)

/-- The sum of the weights. -/
def tot (f : ℕ → EReal) : EReal := ∑ k ∈ Finset.range 2048, wt f k

/-- The weighted sum of the values, divided by the sum of the weights. -/
def row (f : ℕ → EReal) (v : ℕ → Fin 128 → EReal) (d : Fin 128) : EReal :=
  Ideal.div (∑ k ∈ Finset.range 2048, wt f k * v k d) (tot f)

/-- The sum of the values, each times its share of the weights. -/
def rowShares (f : ℕ → EReal) (v : ℕ → Fin 128 → EReal) (d : Fin 128) : EReal :=
  ∑ k ∈ Finset.range 2048, Ideal.div (wt f k) (tot f) * v k d

/-- The constant that divides the sum of squares. -/
def width : EReal := Ideal.ofBits .f32 0x43000000#32

/-- The constant added to the mean square. -/
def eps : EReal := Ideal.ofBits .f32 0x358637BD#32

/-- One element of a vector, divided by the vector's root mean square. -/
def rms (o : Fin 128 → EReal) (d : Fin 128) : EReal :=
  o d * Ideal.rsqrt (Ideal.div (∑ e : Fin 128, o e * o e) width + eps)

/-- An exponential is never negative. -/
theorem exp_nonneg (x : EReal) : 0 ≤ Ideal.exp x := by
  induction x with
  | bot => exact le_refl _
  | top => exact le_top
  | coe r => exact EReal.coe_nonneg.mpr (Real.exp_pos r).le

/-- The weight of a masked score is zero. -/
theorem wt_bot (f : ℕ → EReal) (k : ℕ) (h : f k = ⊥) : wt f k = 0 := by
  unfold wt
  rw [h, EReal.bot_sub]
  rfl

/-- `width` is 128. -/
theorem width_eq : width = ((128 : ℝ) : EReal) := by
  unfold width
  simp [Ideal.ofBits, Ideal.ieee, -EReal.coe_mul]
  norm_num

/-- `eps` is a real number. -/
theorem eps_ne_bot : eps ≠ ⊥ := by
  unfold eps
  simp [Ideal.ofBits, Ideal.ieee, -EReal.coe_mul]

/-- The bits of the least float are `⊥`. -/
theorem ofBits_bot : Ideal.ofBits .f32 0xFF800000#32 = ⊥ := by
  simp [Ideal.ofBits, Ideal.ieee]

/-- A sum times a nonnegative finite factor. -/
theorem sum_mul_fin {ι : Type} (s : Finset ι) (g : ι → EReal) {x : EReal} (h0 : 0 ≤ x) (ht : x ≠ ⊤) :
    (∑ k ∈ s, g k) * x = ∑ k ∈ s, g k * x := by
  classical
  induction s using Finset.induction_on with
  | empty => simp
  | insert a s ha ih =>
    rw [Finset.sum_insert ha, Finset.sum_insert ha, ← ih, mul_comm, EReal.left_distrib_of_nonneg_of_ne_top h0 ht, mul_comm x, mul_comm x]

/-- Where the weights' sum is not zero, dividing once is dividing each. -/
theorem row_eq (f : ℕ → EReal) (v : ℕ → Fin 128 → EReal) (h : tot f ≠ 0) (d : Fin 128) : row f v d = rowShares f v d := by
  have h0 : 0 ≤ tot f := Finset.sum_nonneg fun k _ => exp_nonneg _
  have hi : 0 ≤ (tot f)⁻¹ := EReal.inv_nonneg_of_nonneg h0
  have ht : (tot f)⁻¹ ≠ ⊤ := by
    generalize tot f = L
    induction L with
    | bot => simp
    | top => simp
    | coe r => rw [← EReal.coe_inv]; exact EReal.coe_ne_top _
  unfold row rowShares Ideal.div
  simp only [if_neg h]
  rw [sum_mul_fin _ _ hi ht]
  refine Finset.sum_congr rfl fun k _ => ?_
  rw [mul_assoc, mul_comm (v k d), ← mul_assoc]

/-- A vector of zeros and infinities is normalised to zero. -/
theorem rms_zero (o : Fin 128 → EReal) (h : ∀ d, o d = 0 ∨ o d = ⊤ ∨ o d = ⊥) (d : Fin 128) : rms o d = 0 := by
  unfold rms
  by_cases hd : o d = 0
  · rw [hd, zero_mul]
  · have hsq : ∀ e, 0 ≤ o e * o e := fun e => by
      rcases h e with h | h | h <;> rw [h] <;> simp
    have hdd : o d * o d = ⊤ := by
      rcases h d with h | h | h
      · exact absurd h hd
      · rw [h]; simp
      · rw [h]; simp
    have hs : ∑ e : Fin 128, o e * o e = ⊤ :=
      top_le_iff.mp (hdd ▸ Finset.single_le_sum (f := fun e => o e * o e) (fun e _ => hsq e) (Finset.mem_univ d))
    have hdiv : Ideal.div ⊤ width = ⊤ := by
      rw [width_eq]
      unfold Ideal.div
      rw [if_neg (by norm_num), ← EReal.coe_inv]
      exact EReal.top_mul_coe_of_pos (by norm_num)
    rw [hs, hdiv, EReal.top_add_of_ne_bot eps_ne_bot]
    show o d * 0 = 0
    exact mul_zero _

/-- A sum of zeros and infinities is one of them. -/
theorem sum_zero_inf {ι : Type} (s : Finset ι) (g : ι → EReal) (h : ∀ k, g k = 0 ∨ g k = ⊤ ∨ g k = ⊥) :
    ∑ k ∈ s, g k = 0 ∨ ∑ k ∈ s, g k = ⊤ ∨ ∑ k ∈ s, g k = ⊥ := by
  classical
  induction s using Finset.induction_on with
  | empty => simp
  | insert a s ha ih =>
    rw [Finset.sum_insert ha]
    rcases h a with h | h | h <;> rcases ih with i | i | i <;> rw [h, i] <;> simp

/-- After the normalisation the two ways to divide agree always: where the weights' sum is zero, both give zero. -/
theorem rms_row (f : ℕ → EReal) (v : ℕ → Fin 128 → EReal) (d : Fin 128) : rms (row f v) d = rms (rowShares f v) d := by
  by_cases h : tot f = 0
  · have hw : ∀ k ∈ Finset.range 2048, wt f k = 0 :=
      (Finset.sum_eq_zero_iff_of_nonneg fun k _ => exp_nonneg _).mp h
    have hz : Ideal.div 0 0 = ⊥ := by unfold Ideal.div; simp
    rw [rms_zero, rms_zero]
    · intro e
      have : rowShares f v e = ∑ k ∈ Finset.range 2048, ⊥ * v k e :=
        Finset.sum_congr rfl fun k hk => by rw [hw k hk, h, hz]
      rw [this]
      refine sum_zero_inf _ _ fun k => ?_
      rcases lt_trichotomy (v k e) 0 with hv | hv | hv
      · exact .inr (.inl (EReal.bot_mul_of_neg hv))
      · exact .inl (by rw [hv, mul_zero])
      · exact .inr (.inr (EReal.bot_mul_of_pos hv))
    · intro e
      refine .inr (.inr ?_)
      unfold row
      rw [Finset.sum_eq_zero fun k hk => by rw [hw k hk, zero_mul], h, hz]
  · rw [show row f v = rowShares f v from funext (row_eq f v h)]

/-- The largest over the first `a + b` keys, from the first `a` and the `b` after. -/
theorem sup_add (f : ℕ → EReal) (a b : ℕ) :
    (Finset.range (a + b)).sup f = max ((Finset.range a).sup f) ((Finset.univ : Finset (Fin b)).sup fun k => f (a + k)) := by
  refine le_antisymm (Finset.sup_le fun k hk => ?_) (max_le (Finset.sup_mono (Finset.range_mono (Nat.le_add_right a b))) (Finset.sup_le fun k _ => ?_))
  · rcases lt_or_ge k a with h | h
    · exact le_max_of_le_left (Finset.le_sup (f := f) (Finset.mem_range.mpr h))
    · have hk' := Finset.mem_range.mp hk
      refine le_max_of_le_right ?_
      have := Finset.le_sup (f := fun k : Fin b => f (a + k)) (Finset.mem_univ ⟨k - a, by omega⟩)
      simpa only [Nat.add_sub_cancel' h] using this
  · exact Finset.le_sup (f := f) (Finset.mem_range.mpr (by have := k.isLt; omega))

/-- The sum over the first `a + b` keys, from the first `a` and the `b` after. -/
theorem sum_add (g : ℕ → EReal) (a b : ℕ) :
    ∑ k ∈ Finset.range (a + b), g k = ∑ k ∈ Finset.range a, g k + ∑ k : Fin b, g (a + k) := by
  rw [Finset.sum_range_add]
  exact congrArg _ (Finset.sum_range fun k => g (a + k))

/-- A maximum written as a fold from the least float. -/
theorem fold_max {n : ℕ} (g : Fin n → EReal) :
    (Finset.univ : Finset (Fin n)).fold max (Ideal.ofBits .f32 0xFF800000#32) g = Finset.univ.sup g := by
  rw [ofBits_bot]
  rfl

/-- The largest of the row, over `Fin`. -/
theorem mx_fin (f : ℕ → EReal) : (Finset.univ : Finset (Fin 2048)).sup (fun k => f k.val) = mx f := by
  have h := sup_add f 0 2048
  simp only [Nat.zero_add, Finset.range_zero, Finset.sup_empty] at h
  exact (h.trans (max_eq_right bot_le)).symm

/-- Masked keys do not count in the largest score, -/
theorem mx_cut (f : ℕ → EReal) (a : ℕ) (ha : a ≤ 2048) (h : ∀ k, a ≤ k → f k = ⊥) : (Finset.range a).sup f = mx f := by
  refine le_antisymm (Finset.sup_mono (Finset.range_mono ha)) (Finset.sup_le fun k _ => ?_)
  rcases lt_or_ge k a with hk | hk
  · exact Finset.le_sup (f := f) (Finset.mem_range.mpr hk)
  · rw [h k hk]; exact bot_le

/-- nor in a sum of the weights times anything. -/
theorem sum_cut (f : ℕ → EReal) (u : ℕ → EReal) (a : ℕ) (ha : a ≤ 2048) (h : ∀ k, a ≤ k → f k = ⊥) :
    ∑ k ∈ Finset.range a, wt f k * u k = ∑ k ∈ Finset.range 2048, wt f k * u k :=
  Finset.sum_subset (Finset.range_mono ha) fun k _ hk => by
    rw [wt_bot f k (h k (by simpa using hk)), zero_mul]

/-- The sum of the weights likewise. -/
theorem tot_cut (f : ℕ → EReal) (a : ℕ) (ha : a ≤ 2048) (h : ∀ k, a ≤ k → f k = ⊥) :
    ∑ k ∈ Finset.range a, wt f k = tot f :=
  Finset.sum_subset (Finset.range_mono ha) fun k _ hk => wt_bot f k (h k (by simpa using hk))

end Cert.SoftmaxRow

end
-- ==== Proof.FoxTiles.lean ====
/- The forgetting attention's kernel, in words: a tile of 256 queries against chunks of keys. -/
module

public import proofs.«01_k».proof.Proof.Gen.FoxIdeal.Skeleton
public import proofs.«01_k».proof.Proof.SoftmaxRow
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxIdeal.Value

open Cert.FoxIdeal Cert.FoxIdeal.Gen Cert.SoftmaxRow

/-- The tile's queries. -/
def QS (x : Vec Ideal S1x2048x128 .bf16) (a : ℕ) (h : ∀ u, (![0, a, 0] : Fin 3 → ℕ) u + S1x256x128.size u ≤ S1x2048x128.size u) : FVec Ideal S256x128 .bf16 :=
  shapeCast S256x128 (View.ld x (Rect.unit ![0, a, 0] S1x256x128.size h)) shapeCasts_S1x256x128_S256x128

/-- The tile's cumulative gates: the head's column, picked out by a sum. -/
def CS (i : grid0.Coords) (x : Vec Ideal S2048x128 .f32) (a : ℕ) (h : ∀ u, (![a, 0] : Fin 2 → ℕ) u + S256x128.size u ≤ S2048x128.size u) : FVec Ideal S256x1 .f32 :=
  shapeCast S256x1 (multiReduction .add [1] S256 (select (broadcastTo S256x128 (shapeCast S1x128 (cmpi .eq (iota .tc S1x128 32 [1] iota_S1x128_d1_w32) (broadcast S1x128 (BitVec.ofNat 32 (i 1).val))) shapeCasts_S1x128_S1x128) broadcasts_S1x128_S256x128) (View.ld x (Rect.unit ![a, 0] S256x128.size h)) (broadcast S256x128 (Scalar.ofBits .f32 0x00000000#32))) 0x00000000#32 reduces_S256x128_S256 (.inl rfl) rfl) shapeCasts_S256_S256x1

/-- The scores of the tile's queries against 256 keys. -/
def SC256 (q : FVec Ideal S256x128 .bf16) (c : FVec Ideal S256x1 .f32) (k : FVec Ideal S1x256x128 .bf16) (g : FVec Ideal S1x1x256 .f32) : FVec Ideal S256x256 .f32 :=
  subf (addf (matmul dot_S256x128_S256x128_S256x256_1_1_0_0_n_n none q (shapeCast S256x128 k shapeCasts_S1x256x128_S256x128) (constant S256x256 .f32 0x00000000#32)) (broadcastTo S256x256 c broadcasts_S256x1_S256x256)) (broadcastTo S256x256 (shapeCast S1x256 g shapeCasts_S1x1x256_S1x256) broadcasts_S1x256_S256x256)

/-- The scores of the tile's queries against 512 keys. -/
def SC512 (q : FVec Ideal S256x128 .bf16) (c : FVec Ideal S256x1 .f32) (k : FVec Ideal S1x512x128 .bf16) (g : FVec Ideal S1x1x512 .f32) : FVec Ideal S256x512 .f32 :=
  subf (addf (matmul dot_S256x128_S512x128_S256x512_1_1_0_0_n_n none q (shapeCast S512x128 k shapeCasts_S1x512x128_S512x128) (constant S256x512 .f32 0x00000000#32)) (broadcastTo S256x512 c broadcasts_S256x1_S256x512)) (broadcastTo S256x512 (shapeCast S1x512 g shapeCasts_S1x1x512_S1x512) broadcasts_S1x512_S256x512)

/-- 256 scores masked above the diagonal. -/
def MASK256 (s : FVec Ideal S256x256 .f32) : FVec Ideal S256x256 .f32 :=
  select k0_pay2 s (broadcast S256x256 (Named.named κ "mask" 0xF149F2CA#32))

/-- 512 scores, the later half masked above its diagonal. -/
def MASK512 (s : FVec Ideal S256x512 .f32) : FVec Ideal S256x512 .f32 :=
  concatenate S256x512 1 [⟨S256x256, extractStridedSlice S256x256 ![0, 0] s slices_S256x512_o0_0_S256x256⟩, ⟨S256x256, MASK256 (extractStridedSlice S256x256 ![0, 256] s slices_S256x512_o0_256_S256x256)⟩] concatenates_S256x256_S256x256_S256x512_d1

/-- The largest of 256 scores. -/
def MX256 (s : FVec Ideal S256x256 .f32) : FVec Ideal S256x1 .f32 :=
  shapeCast S256x1 (multiReduction .maximumf [1] S256 s 0xFF800000#32 reduces_S256x256_S256 (.inl rfl) rfl) shapeCasts_S256_S256x1

/-- The largest of 512 scores. -/
def MX512 (s : FVec Ideal S256x512 .f32) : FVec Ideal S256x1 .f32 :=
  shapeCast S256x1 (multiReduction .maximumf [1] S256 s 0xFF800000#32 reduces_S256x512_S256 (.inl rfl) rfl) shapeCasts_S256_S256x1

/-- The weights of 256 keys. -/
def EX256 (s : FVec Ideal S256x256 .f32) (M : FVec Ideal S256x1 .f32) : FVec Ideal S256x256 .f32 :=
  exp (subf (shapeCast S256x256 s shapeCasts_S256x256_S256x256) (broadcastTo S256x256 M broadcasts_S256x1_S256x256))

/-- The weights of 512 keys. -/
def EX512 (s : FVec Ideal S256x512 .f32) (M : FVec Ideal S256x1 .f32) : FVec Ideal S256x512 .f32 :=
  exp (subf (shapeCast S256x512 s shapeCasts_S256x512_S256x512) (broadcastTo S256x512 M broadcasts_S256x1_S256x512))

/-- The weights of 256 keys, as the product reads them. -/
def PB256 (e : FVec Ideal S256x256 .f32) : FVec Ideal S256x256 .bf16 :=
  shapeCast S256x256 (truncf .bf16 e bitsLt_bf16_f32) shapeCasts_S256x256_S256x256

/-- The weights of 512 keys, as the product reads them. -/
def PB512 (e : FVec Ideal S256x512 .f32) : FVec Ideal S256x512 .bf16 :=
  shapeCast S256x512 (truncf .bf16 e bitsLt_bf16_f32) shapeCasts_S256x512_S256x512

/-- The sum of 256 weights. -/
def RS256 (e : FVec Ideal S256x256 .f32) : FVec Ideal S256x1 .f32 :=
  shapeCast S256x1 (multiReduction .add [1] S256 e 0x00000000#32 reduces_S256x256_S256 (.inl rfl) rfl) shapeCasts_S256_S256x1

/-- The sum of 512 weights. -/
def RS512 (e : FVec Ideal S256x512 .f32) : FVec Ideal S256x1 .f32 :=
  shapeCast S256x1 (multiReduction .add [1] S256 e 0x00000000#32 reduces_S256x512_S256 (.inl rfl) rfl) shapeCasts_S256_S256x1

/-- A column of zeros. -/
def Z : FVec Ideal S256x1 .f32 := broadcast S256x1 (Scalar.ofBits .f32 0x00000000#32)

/-- The weighted values divided by the sum of the weights. -/
def QUOT (o : FVec Ideal S256x128 .f32) (l : FVec Ideal S256x1 .f32) : FVec Ideal S256x128 .f32 :=
  divf o (broadcastTo S256x128 l broadcasts_S256x1_S256x128)

/-- The head's normalisation and weight. -/
def NORM (g : FVec Ideal S1x128 .f32) (o : FVec Ideal S256x128 .f32) : FVec Ideal S256x128 .bf16 :=
  truncf .bf16 (mulf (mulf o (broadcastTo S256x128 (rsqrt (addf (divf (shapeCast S256x1 (multiReduction .add [1] S256 (mulf o o) 0x00000000#32 reduces_S256x128_S256 (.inl rfl) rfl) shapeCasts_S256_S256x1) (broadcast S256x1 (Scalar.ofBits .f32 0x43000000#32))) (broadcast S256x1 (Scalar.ofBits .f32 0x358637BD#32)))) broadcasts_S256x1_S256x128)) (broadcastTo S256x128 g broadcasts_S1x128_S256x128)) bitsLt_bf16_f32

/-- A query's position. -/
def at_ (a : ℕ) (ha : a + 256 ≤ 2048) (r : Fin 256) : Fin 2048 := ⟨a + r.val, by omega⟩

/-- One score of the blocks. -/
def blockScore (x0 x1 : Vec Ideal S1x2048x128 .bf16) (x3 : Vec Ideal S2048x128 .f32) (x4 : Vec Ideal S1x8x2048 .f32) (j : Fin 5) (i k : Fin 2048) : EReal :=
  (∑ d : Fin 128, x0 (ix3 0 i d) * x1 (ix3 0 k d)) + x3 (ix2 i ⟨j.val, by omega⟩) - x4 (ix3 0 ⟨j.val, by omega⟩ k)

/-- A query's row of scores, masked beyond its own position. -/
def blockScores (x0 x1 : Vec Ideal S1x2048x128 .bf16) (x3 : Vec Ideal S2048x128 .f32) (x4 : Vec Ideal S1x8x2048 .f32) (j : Fin 5) (i : Fin 2048) (k : ℕ) : EReal :=
  if h : k ≤ i.val then blockScore x0 x1 x3 x4 j i ⟨k, by omega⟩ else ⊥

/-- The block's values. -/
def blockVals (x2 : Vec Ideal S1x2048x128 .bf16) (k : ℕ) (d : Fin 128) : EReal :=
  if h : k < 2048 then x2 (ix3 0 ⟨k, h⟩ d) else 0

/-- A column whose entries are `F`. -/
def Col (M : S256x1.Idx → EReal) (F : Fin 256 → EReal) : Prop := ∀ r, M (ix2 r 0) = F r

/-- A chunk of columns from `o` on whose entries are `F`. -/
def Chunk {n : ℕ} (s : (⟨2, ![256, n]⟩ : Shape).Idx → EReal) (F : Fin 256 → ℕ → EReal) (o : ℕ) : Prop :=
  ∀ (r : Fin 256) (k : Fin n), s (ix2 r k) = F r (o + k.val)

/-- Read through a rectangle of rows, a block of one plane gives its rows from `a` on. -/
theorem ld_rows {w : ℕ} (x : Vec Ideal S1x2048x128 .bf16) (a : ℕ) (h) (ha : a + w ≤ 2048) (r : Fin w) (d : Fin 128) :
    View.ld x (Rect.unit ![0, a, 0] ![1, w, 128] h) (ix3 0 r d) = x (ix3 0 ⟨a + r.val, by omega⟩ d) := by
  refine View.ld_unit_apply_of x _ _ h (ix3 0 r d) (ix3 0 ⟨a + r.val, by omega⟩ d) fun u => ?_
  fin_cases u
  · rfl
  · rfl
  · exact (Nat.zero_add _).symm

/-- Read through a rectangle of rows, a block gives its rows from `a` on. -/
theorem ld_col (x : Vec Ideal S2048x128 .f32) (a : ℕ) (h) (ha : a + 256 ≤ 2048) (r : Fin 256) (d : Fin 128) :
    View.ld x (Rect.unit ![a, 0] S256x128.size h) (ix2 r d) = x (ix2 (at_ a ha r) d) := by
  refine View.ld_unit_apply_of x _ _ h (ix2 r d) (ix2 (at_ a ha r) d) fun u => ?_
  fin_cases u
  · rfl
  · exact (Nat.zero_add _).symm

/-- Read through a rectangle within row `j`, the block of gates gives the row's entries from `o` on. -/
theorem ld_gates {w : ℕ} (x : Vec Ideal S1x8x2048 .f32) (off : Fin 3 → ℕ) (h) (j : Fin 8) (o : ℕ) (hoff : off = ![0, j.val, o]) (ho : o + w ≤ 2048) (k : Fin w) :
    View.ld x (Rect.unit off ![1, 1, w] h) (ix3 0 0 k) = x (ix3 0 j ⟨o + k.val, by omega⟩) := by
  subst hoff
  refine View.ld_unit_apply_of x _ _ h (ix3 0 0 k) (ix3 0 j ⟨o + k.val, by omega⟩) fun u => ?_
  fin_cases u
  · rfl
  · rfl
  · rfl

theorem plane_at (X : FVec Ideal S1x256x128 .bf16) (r : Fin 256) (d : Fin 128) :
    shapeCast S256x128 X shapeCasts_S1x256x128_S256x128 (ix2 r d) = X (ix3 0 r d) := by
  pointwise []

theorem qs_at (x : Vec Ideal S1x2048x128 .bf16) (a : ℕ) (h) (ha : a + 256 ≤ 2048) (r : Fin 256) (d : Fin 128) :
    QS x a h (ix2 r d) = x (ix3 0 (at_ a ha r) d) := by
  exact (plane_at _ r d).trans (ld_rows x a h ha r d)

theorem pick_at (X : FVec Ideal S256x128 .f32) (j : Fin 5) (r : Fin 256) :
    shapeCast S256x1 (multiReduction .add [1] S256 (select (broadcastTo S256x128 (shapeCast S1x128 (cmpi .eq (iota .tc S1x128 32 [1] iota_S1x128_d1_w32) (broadcast S1x128 (BitVec.ofNat 32 j.val))) shapeCasts_S1x128_S1x128) broadcasts_S1x128_S256x128) X (broadcast S256x128 (Scalar.ofBits .f32 0x00000000#32))) 0x00000000#32 reduces_S256x128_S256 (.inl rfl) rfl) shapeCasts_S256_S256x1 (ix2 r 0)
      = X (ix2 r ⟨j.val, by omega⟩) := by
  pointwise []
  refine (Finset.sum_eq_single_of_mem (⟨j.val, by omega⟩ : Fin 128) (Finset.mem_univ _) fun n _ hn => ?_).trans ?_
  · rw [WordCmp.cmpi_eq_ofNat (by omega) (by omega), WordCmp.select_ofBool, if_neg]
    simp only [decide_eq_true_eq]
    exact fun h => hn (Fin.ext h)
  · rw [WordCmp.cmpi_eq_ofNat (by omega) (by omega), WordCmp.select_ofBool, if_pos (decide_eq_true rfl)]

theorem cs_at (i : grid0.Coords) (x : Vec Ideal S2048x128 .f32) (a : ℕ) (h) (ha : a + 256 ≤ 2048) (j : Fin 5) (hj : (i 1).val = j.val) (r : Fin 256) :
    CS i x a h (ix2 r 0) = x (ix2 (at_ a ha r) ⟨j.val, by omega⟩) := by
  unfold CS
  rw [hj]
  exact (pick_at _ j r).trans (ld_col x a h ha r _)

theorem sc256_at (q : FVec Ideal S256x128 .bf16) (c : FVec Ideal S256x1 .f32) (k : FVec Ideal S1x256x128 .bf16) (g : FVec Ideal S1x1x256 .f32) (r : Fin 256) (n : Fin 256) :
    SC256 q c k g (ix2 r n) = (∑ d : Fin 128, q (ix2 r d) * k (ix3 0 n d)) + c (ix2 r 0) - g (ix3 0 0 n) := by
  pointwise [SC256]

theorem sc512_at (q : FVec Ideal S256x128 .bf16) (c : FVec Ideal S256x1 .f32) (k : FVec Ideal S1x512x128 .bf16) (g : FVec Ideal S1x1x512 .f32) (r : Fin 256) (n : Fin 512) :
    SC512 q c k g (ix2 r n) = (∑ d : Fin 128, q (ix2 r d) * k (ix3 0 n d)) + c (ix2 r 0) - g (ix3 0 0 n) := by
  pointwise [SC512]

theorem mask256_at (s : FVec Ideal S256x256 .f32) (r : Fin 256) (n : Fin 256) :
    MASK256 s (ix2 r n) = if n.val ≤ r.val then s (ix2 r n) else ⊥ := by
  pointwise [MASK256, k0_pay2]
  rw [WordCmp.cmpi_sle_ofNat (by omega) (by omega), WordCmp.select_ofBool]
  simp only [decide_eq_true_eq]
  rfl

theorem mask512_at (s : FVec Ideal S256x512 .f32) (r : Fin 256) (n : Fin 512) :
    MASK512 s (ix2 r n) = if n.val ≤ 256 + r.val then s (ix2 r n) else ⊥ := by
  have h := mask256_at (extractStridedSlice S256x256 ![0, 256] s slices_S256x512_o0_256_S256x256) r
  unfold MASK512
  generalize MASK256 (extractStridedSlice S256x256 ![0, 256] s slices_S256x512_o0_256_S256x256) = M at h
  pointwise [h]
  split
  · rw [if_pos (by omega)]
  · rename_i hn
    have hk : (⟨256 + (n.val - 256), by omega⟩ : Fin 512) = n := Fin.ext (by simp only; omega)
    rw [hk]
    exact if_congr (by omega) rfl rfl

theorem mx256_at (s : FVec Ideal S256x256 .f32) (r : Fin 256) : MX256 s (ix2 r 0) = Finset.univ.sup fun k : Fin 256 => s (ix2 r k) := by
  refine Eq.trans ?_ (fold_max fun k : Fin 256 => s (ix2 r k))
  pointwise [MX256]

theorem mx512_at (s : FVec Ideal S256x512 .f32) (r : Fin 256) : MX512 s (ix2 r 0) = Finset.univ.sup fun k : Fin 512 => s (ix2 r k) := by
  refine Eq.trans ?_ (fold_max fun k : Fin 512 => s (ix2 r k))
  pointwise [MX512]

theorem ex256_at (s : FVec Ideal S256x256 .f32) (M : FVec Ideal S256x1 .f32) (r k : Fin 256) : EX256 s M (ix2 r k) = Ideal.exp (s (ix2 r k) - M (ix2 r 0)) := by
  pointwise [EX256]

theorem ex512_at (s : FVec Ideal S256x512 .f32) (M : FVec Ideal S256x1 .f32) (r : Fin 256) (k : Fin 512) : EX512 s M (ix2 r k) = Ideal.exp (s (ix2 r k) - M (ix2 r 0)) := by
  pointwise [EX512]

theorem pb256_at (e : FVec Ideal S256x256 .f32) (r k : Fin 256) : PB256 e (ix2 r k) = e (ix2 r k) := by
  pointwise [PB256]

theorem pb512_at (e : FVec Ideal S256x512 .f32) (r : Fin 256) (k : Fin 512) : PB512 e (ix2 r k) = e (ix2 r k) := by
  pointwise [PB512]

theorem rs256_at (e : FVec Ideal S256x256 .f32) (r : Fin 256) : RS256 e (ix2 r 0) = ∑ k : Fin 256, e (ix2 r k) := by
  pointwise [RS256]

theorem rs512_at (e : FVec Ideal S256x512 .f32) (r : Fin 256) : RS512 e (ix2 r 0) = ∑ k : Fin 512, e (ix2 r k) := by
  pointwise [RS512]

theorem quot_at (o : FVec Ideal S256x128 .f32) (l : FVec Ideal S256x1 .f32) (r : Fin 256) (d : Fin 128) : QUOT o l (ix2 r d) = Ideal.div (o (ix2 r d)) (l (ix2 r 0)) := by
  pointwise [QUOT]

theorem norm_at (g : FVec Ideal S1x128 .f32) (o : FVec Ideal S256x128 .f32) (r : Fin 256) (d : Fin 128) :
    NORM g o (ix2 r d) = rms (fun e => o (ix2 r e)) d * g (ix2 0 d) := by
  pointwise [NORM, rms, width, eps]

theorem pv256_at (p : FVec Ideal S256x256 .bf16) (v : FVec Ideal S1x256x128 .bf16) (r : Fin 256) (d : Fin 128) :
    matmul dot_S256x256_S256x128_S256x128_1_0_0_1_n_n none p (shapeCast S256x128 v shapeCasts_S1x256x128_S256x128) (constant S256x128 .f32 0x00000000#32) (ix2 r d) = ∑ k : Fin 256, p (ix2 r k) * v (ix3 0 k d) := by
  pointwise []

theorem pv512_at (p : FVec Ideal S256x512 .bf16) (v : FVec Ideal S1x512x128 .bf16) (r : Fin 256) (d : Fin 128) :
    matmul dot_S256x512_S512x128_S256x128_1_0_0_1_n_n none p (shapeCast S512x128 v shapeCasts_S1x512x128_S512x128) (constant S256x128 .f32 0x00000000#32) (ix2 r d) = ∑ k : Fin 512, p (ix2 r k) * v (ix3 0 k d) := by
  pointwise []

theorem pv768_at (p : FVec Ideal S256x768 .bf16) (v : FVec Ideal S1x768x128 .bf16) (r : Fin 256) (d : Fin 128) :
    matmul dot_S256x768_S768x128_S256x128_1_0_0_1_n_n none p (shapeCast S768x128 v shapeCasts_S1x768x128_S768x128) (constant S256x128 .f32 0x00000000#32) (ix2 r d) = ∑ k : Fin 768, p (ix2 r k) * v (ix3 0 k d) := by
  pointwise []

theorem pv1024_at (p : FVec Ideal S256x1024 .bf16) (v : FVec Ideal S1x1024x128 .bf16) (r : Fin 256) (d : Fin 128) :
    matmul dot_S256x1024_S1024x128_S256x128_1_0_0_1_n_n none p (shapeCast S1024x128 v shapeCasts_S1x1024x128_S1024x128) (constant S256x128 .f32 0x00000000#32) (ix2 r d) = ∑ k : Fin 1024, p (ix2 r k) * v (ix3 0 k d) := by
  pointwise []

theorem pv1280_at (p : FVec Ideal S256x1280 .bf16) (v : FVec Ideal S1x1280x128 .bf16) (r : Fin 256) (d : Fin 128) :
    matmul dot_S256x1280_S1280x128_S256x128_1_0_0_1_n_n none p (shapeCast S1280x128 v shapeCasts_S1x1280x128_S1280x128) (constant S256x128 .f32 0x00000000#32) (ix2 r d) = ∑ k : Fin 1280, p (ix2 r k) * v (ix3 0 k d) := by
  pointwise []

theorem pv1536_at (p : FVec Ideal S256x1536 .bf16) (v : FVec Ideal S1x1536x128 .bf16) (r : Fin 256) (d : Fin 128) :
    matmul dot_S256x1536_S1536x128_S256x128_1_0_0_1_n_n none p (shapeCast S1536x128 v shapeCasts_S1x1536x128_S1536x128) (constant S256x128 .f32 0x00000000#32) (ix2 r d) = ∑ k : Fin 1536, p (ix2 r k) * v (ix3 0 k d) := by
  pointwise []

theorem pv1792_at (p : FVec Ideal S256x1792 .bf16) (v : FVec Ideal S1x1792x128 .bf16) (r : Fin 256) (d : Fin 128) :
    matmul dot_S256x1792_S1792x128_S256x128_1_0_0_1_n_n none p (shapeCast S1792x128 v shapeCasts_S1x1792x128_S1792x128) (constant S256x128 .f32 0x00000000#32) (ix2 r d) = ∑ k : Fin 1792, p (ix2 r k) * v (ix3 0 k d) := by
  pointwise []

theorem pv2048_at (p : FVec Ideal S256x2048 .bf16) (v : FVec Ideal S1x2048x128 .bf16) (r : Fin 256) (d : Fin 128) :
    matmul dot_S256x2048_S2048x128_S256x128_1_0_0_1_n_n none p (shapeCast S2048x128 v shapeCasts_S1x2048x128_S2048x128) (constant S256x128 .f32 0x00000000#32) (ix2 r d) = ∑ k : Fin 2048, p (ix2 r k) * v (ix3 0 k d) := by
  pointwise []

end Cert.FoxIdeal.Value
-- ==== Proof.FoxChunks.lean ====
/- The forgetting attention's kernel, chunk by chunk: running largest scores and running sums of a tile's rows, and the
   tile's output once every key up to its last query has been seen. -/
module

public import proofs.«01_k».proof.Proof.FoxTiles

@[expose] public section

set_option maxRecDepth 16384

noncomputable section

open Idealize.ShloMosaic Idealize.ShloMosaic.TcCoe Idealize.SL.Sem

namespace Cert.FoxIdeal.Value

open Cert.FoxIdeal Cert.FoxIdeal.Gen Cert.SoftmaxRow

variable {F : Fin 256 → ℕ → EReal} {o : ℕ}

theorem inb_rows {a w : ℕ} (h : a + w ≤ 2048) : ∀ u, (![0, a, 0] : Fin 3 → ℕ) u + (![1, w, 128] : Fin 3 → ℕ) u ≤ S1x2048x128.size u := by
  intro u
  fin_cases u
  · exact le_refl _
  · exact h
  · exact le_refl _

theorem inb_col {a : ℕ} (h : a + 256 ≤ 2048) : ∀ u, (![a, 0] : Fin 2 → ℕ) u + S256x128.size u ≤ S2048x128.size u := by
  intro u
  fin_cases u
  · exact h
  · exact le_refl _

theorem inb_gates {o w j : ℕ} {off : Fin 3 → ℕ} (hoff : off = ![0, j, o]) (hj : j < 5) (h : o + w ≤ 2048) : ∀ u, off u + (![1, 1, w] : Fin 3 → ℕ) u ≤ S1x8x2048.size u := by
  subst hoff
  intro u
  fin_cases u
  · exact le_refl _
  · exact (show j + 1 ≤ 8 by omega)
  · exact h

/-- The scores of a tile's rows. -/
def tileScores (x0 x1 : Vec Ideal S1x2048x128 .bf16) (x3 : Vec Ideal S2048x128 .f32) (x4 : Vec Ideal S1x8x2048 .f32) (j : Fin 5) (a : ℕ) (ha : a + 256 ≤ 2048) (r : Fin 256) : ℕ → EReal :=
  blockScores x0 x1 x3 x4 j (at_ a ha r)

section scores

variable (x0 x1 : Vec Ideal S1x2048x128 .bf16) (x3 : Vec Ideal S2048x128 .f32) (x4 : Vec Ideal S1x8x2048 .f32)

/-- A chunk of 256 keys, before the mask, holds the block's scores. -/
theorem raw256 {i : grid0.Coords} {j : Fin 5} (hj : (i 1).val = j.val) {a : ℕ} (ha : a + 256 ≤ 2048) {o : ℕ} (ho : o + 256 ≤ 2048) (hq hc hk) {off : Fin 3 → ℕ} (hg) (hoff : off = ![0, (i 1).val, o]) (r k : Fin 256) :
    SC256 (QS x0 a hq) (CS i x3 a hc) (View.ld x1 (Rect.unit ![0, o, 0] S1x256x128.size hk)) (View.ld x4 (Rect.unit off S1x1x256.size hg)) (ix2 r k)
      = blockScore x0 x1 x3 x4 j (at_ a ha r) ⟨o + k.val, by omega⟩ := by
  rw [hj] at hoff
  refine (sc256_at _ _ _ _ r k).trans ?_
  refine congrArg₂ (· - ·) (congrArg₂ (· + ·) (Finset.sum_congr rfl fun d _ => congrArg₂ (· * ·) (qs_at x0 a hq ha r d) (ld_rows x1 o hk ho k d)) (cs_at i x3 a hc ha j hj r)) (ld_gates x4 off hg ⟨j.val, by omega⟩ o hoff ho k)

/-- A chunk of 512 keys, before the mask, holds the block's scores. -/
theorem raw512 {i : grid0.Coords} {j : Fin 5} (hj : (i 1).val = j.val) {a : ℕ} (ha : a + 256 ≤ 2048) {o : ℕ} (ho : o + 512 ≤ 2048) (hq hc hk) {off : Fin 3 → ℕ} (hg) (hoff : off = ![0, (i 1).val, o]) (r : Fin 256) (k : Fin 512) :
    SC512 (QS x0 a hq) (CS i x3 a hc) (View.ld x1 (Rect.unit ![0, o, 0] S1x512x128.size hk)) (View.ld x4 (Rect.unit off S1x1x512.size hg)) (ix2 r k)
      = blockScore x0 x1 x3 x4 j (at_ a ha r) ⟨o + k.val, by omega⟩ := by
  rw [hj] at hoff
  refine (sc512_at _ _ _ _ r k).trans ?_
  refine congrArg₂ (· - ·) (congrArg₂ (· + ·) (Finset.sum_congr rfl fun d _ => congrArg₂ (· * ·) (qs_at x0 a hq ha r d) (ld_rows x1 o hk ho k d)) (cs_at i x3 a hc ha j hj r)) (ld_gates x4 off hg ⟨j.val, by omega⟩ o hoff ho k)

/-- A chunk of 512 keys before the tile needs no mask. -/
theorem open512 {i : grid0.Coords} {j : Fin 5} (hj : (i 1).val = j.val) {a : ℕ} (ha : a + 256 ≤ 2048) {o : ℕ} (ho : o + 512 ≤ a) {off : Fin 3 → ℕ} (hoff : off = ![0, (i 1).val, o]) :
    Chunk (SC512 (QS x0 a (inb_rows ha)) (CS i x3 a (inb_col ha)) (View.ld x1 (Rect.unit ![0, o, 0] S1x512x128.size (inb_rows (by omega)))) (View.ld x4 (Rect.unit off S1x1x512.size (inb_gates hoff (i 1).isLt (by omega)))))
      (tileScores x0 x1 x3 x4 j a ha) o := fun r k => by
  have hd : o + k.val ≤ (at_ a ha r).val := by simp only [at_]; omega
  unfold tileScores blockScores
  rw [dif_pos hd]
  exact raw512 x0 x1 x3 x4 hj ha (by omega) _ _ _ _ hoff r k

/-- The tile's own 256 keys, masked above the diagonal. -/
theorem last256 {i : grid0.Coords} {j : Fin 5} (hj : (i 1).val = j.val) {a : ℕ} (ha : a + 256 ≤ 2048) {off : Fin 3 → ℕ} (hoff : off = ![0, (i 1).val, a]) :
    Chunk (MASK256 (SC256 (QS x0 a (inb_rows ha)) (CS i x3 a (inb_col ha)) (View.ld x1 (Rect.unit ![0, a, 0] S1x256x128.size (inb_rows ha))) (View.ld x4 (Rect.unit off S1x1x256.size (inb_gates hoff (i 1).isLt ha)))))
      (tileScores x0 x1 x3 x4 j a ha) a := fun r k => by
  refine (mask256_at _ r k).trans ?_
  unfold tileScores blockScores
  by_cases h : k.val ≤ r.val
  · rw [if_pos h, dif_pos (show a + k.val ≤ (at_ a ha r).val by simp only [at_]; omega)]
    exact raw256 x0 x1 x3 x4 hj ha ha _ _ _ _ hoff r k
  · rw [if_neg h, dif_neg (show ¬ a + k.val ≤ (at_ a ha r).val by simp only [at_]; omega)]

/-- The last 512 keys of a tile, the later half masked above the diagonal. -/
theorem last512 {i : grid0.Coords} {j : Fin 5} (hj : (i 1).val = j.val) {a o : ℕ} (ha : a + 256 ≤ 2048) (hao : a = o + 256) {off : Fin 3 → ℕ} (hoff : off = ![0, (i 1).val, o]) :
    Chunk (MASK512 (SC512 (QS x0 a (inb_rows ha)) (CS i x3 a (inb_col ha)) (View.ld x1 (Rect.unit ![0, o, 0] S1x512x128.size (inb_rows (by omega)))) (View.ld x4 (Rect.unit off S1x1x512.size (inb_gates hoff (i 1).isLt (by omega))))))
      (tileScores x0 x1 x3 x4 j a ha) o := fun r k => by
  refine (mask512_at _ r k).trans ?_
  unfold tileScores blockScores
  by_cases h : k.val ≤ 256 + r.val
  · rw [if_pos h, dif_pos (show o + k.val ≤ (at_ a ha r).val by simp only [at_]; omega)]
    exact raw512 x0 x1 x3 x4 hj ha (by omega) _ _ _ _ hoff r k
  · rw [if_neg h, dif_neg (show ¬ o + k.val ≤ (at_ a ha r).val by simp only [at_]; omega)]

/-- Beyond the tile's last query every score is masked. -/
theorem tile_bot (j : Fin 5) (a : ℕ) (ha : a + 256 ≤ 2048) {e : ℕ} (he : a + 256 = e) (r : Fin 256) (k : ℕ) (hk : e ≤ k) : tileScores x0 x1 x3 x4 j a ha r k = ⊥ :=
  dif_neg (show ¬ k ≤ (at_ a ha r).val by simp only [at_]; omega)

end scores

/-- The largest of the first `e` scores of each row. -/
def TopTo (M : FVec Ideal S256x1 .f32) (F : Fin 256 → ℕ → EReal) (e : ℕ) : Prop := Col M fun r => (Finset.range e).sup (F r)

/-- The sum of the first `e` entries of each row. -/
def SumTo (M : FVec Ideal S256x1 .f32) (F : Fin 256 → ℕ → EReal) (e : ℕ) : Prop := Col M fun r => ∑ k ∈ Finset.range e, F r k

theorem Chunk.sup256 {s : FVec Ideal S256x256 .f32} (h : Chunk s F o) (r : Fin 256) : MX256 s (ix2 r 0) = Finset.univ.sup fun k : Fin 256 => F r (o + k.val) :=
  (mx256_at s r).trans (Finset.sup_congr rfl fun k _ => h r k)

theorem Chunk.sup512 {s : FVec Ideal S256x512 .f32} (h : Chunk s F o) (r : Fin 256) : MX512 s (ix2 r 0) = Finset.univ.sup fun k : Fin 512 => F r (o + k.val) :=
  (mx512_at s r).trans (Finset.sup_congr rfl fun k _ => h r k)

theorem sup_first (f : ℕ → EReal) (b : ℕ) : ((Finset.univ : Finset (Fin b)).sup fun k => f (0 + k.val)) = (Finset.range (0 + b)).sup f :=
  ((sup_add f 0 b).trans (max_eq_right (by simp))).symm

theorem top256 {s : FVec Ideal S256x256 .f32} (h : Chunk s F 0) : TopTo (MX256 s) F (0 + 256) := fun r => (h.sup256 r).trans (sup_first (F r) 256)

theorem top512 {s : FVec Ideal S256x512 .f32} (h : Chunk s F 0) : TopTo (MX512 s) F (0 + 512) := fun r => (h.sup512 r).trans (sup_first (F r) 512)

theorem max_at (A B : FVec Ideal S256x1 .f32) (r : Fin 256) : maximumf A B (ix2 r 0) = max (A (ix2 r 0)) (B (ix2 r 0)) := by
  pointwise []

theorem add_at (A B : FVec Ideal S256x1 .f32) (r : Fin 256) : addf A B (ix2 r 0) = A (ix2 r 0) + B (ix2 r 0) := by
  pointwise []

theorem z_at (r : Fin 256) : Z (ix2 r 0) = 0 := by
  pointwise [Z]

theorem TopTo.step256 {M : FVec Ideal S256x1 .f32} {s : FVec Ideal S256x256 .f32} (hM : TopTo M F o) (h : Chunk s F o) : TopTo (maximumf M (MX256 s)) F (o + 256) := fun r =>
  ((max_at M (MX256 s) r).trans (congrArg₂ max (hM r) (h.sup256 r))).trans (sup_add (F r) o 256).symm

theorem TopTo.step512 {M : FVec Ideal S256x1 .f32} {s : FVec Ideal S256x512 .f32} (hM : TopTo M F o) (h : Chunk s F o) : TopTo (maximumf M (MX512 s)) F (o + 512) := fun r =>
  ((max_at M (MX512 s) r).trans (congrArg₂ max (hM r) (h.sup512 r))).trans (sup_add (F r) o 512).symm

theorem sum0 : SumTo Z F 0 := fun r => (z_at r).trans (by simp)

theorem SumTo.step256 {l : FVec Ideal S256x1 .f32} {e : FVec Ideal S256x256 .f32} (hl : SumTo l F o) (h : Chunk e F o) : SumTo (addf l (RS256 e)) F (o + 256) := fun r =>
  ((add_at l (RS256 e) r).trans (congrArg₂ (· + ·) (hl r) ((rs256_at e r).trans (Finset.sum_congr rfl fun k _ => h r k)))).trans (sum_add (F r) o 256).symm

theorem SumTo.step512 {l : FVec Ideal S256x1 .f32} {e : FVec Ideal S256x512 .f32} (hl : SumTo l F o) (h : Chunk e F o) : SumTo (addf l (RS512 e)) F (o + 512) := fun r =>
  ((add_at l (RS512 e) r).trans (congrArg₂ (· + ·) (hl r) ((rs512_at e r).trans (Finset.sum_congr rfl fun k _ => h r k)))).trans (sum_add (F r) o 512).symm

/-- Once every unmasked key has been seen, the running largest score is the row's. -/
theorem TopTo.all {M : FVec Ideal S256x1 .f32} {e : ℕ} (h : TopTo M F e) (he : e ≤ 2048) (hF : ∀ r k, e ≤ k → F r k = ⊥) : Col M fun r => mx (F r) :=
  fun r => (h r).trans (mx_cut (F r) e he (hF r))

/-- The weights of a tile's rows. -/
def tileWeights (F : Fin 256 → ℕ → EReal) (r : Fin 256) (k : ℕ) : EReal := wt (F r) k

theorem Chunk.ex256 {s : FVec Ideal S256x256 .f32} (h : Chunk s F o) {M : FVec Ideal S256x1 .f32} (hM : Col M fun r => mx (F r)) : Chunk (EX256 s M) (tileWeights F) o := fun r k =>
  (ex256_at s M r k).trans (congrArg Ideal.exp (congrArg₂ (· - ·) (h r k) (hM r)))

theorem Chunk.ex512 {s : FVec Ideal S256x512 .f32} (h : Chunk s F o) {M : FVec Ideal S256x1 .f32} (hM : Col M fun r => mx (F r)) : Chunk (EX512 s M) (tileWeights F) o := fun r k =>
  (ex512_at s M r k).trans (congrArg Ideal.exp (congrArg₂ (· - ·) (h r k) (hM r)))

theorem Chunk.pb256 {e : FVec Ideal S256x256 .f32} (h : Chunk e F o) : Chunk (PB256 e) F o := fun r k => (pb256_at e r k).trans (h r k)

theorem Chunk.pb512 {e : FVec Ideal S256x512 .f32} (h : Chunk e F o) : Chunk (PB512 e) F o := fun r k => (pb512_at e r k).trans (h r k)

/-- What the writes leave in the first `e` columns of the buffer of weights. -/
def Rep (L : List (View.Piece (Elt Ideal) S256x2048 .bf16)) (W : Fin 256 → ℕ → EReal) (e : ℕ) : Prop :=
  ∀ (r : Fin 256) (k : Fin 2048), k.val < e → View.canon L (ix2 r k) = W r k.val

theorem rep0 (L : List (View.Piece (Elt Ideal) S256x2048 .bf16)) (W : Fin 256 → ℕ → EReal) : Rep L W 0 := fun _ _ h => absurd h (Nat.not_lt_zero _)

/-- A chunk written after the ones before it. -/
theorem Rep.cons {L : List (View.Piece (Elt Ideal) S256x2048 .bf16)} {W : Fin 256 → ℕ → EReal} (hL : Rep L W o) {n : ℕ} (h)
    {x : (Rect.unit (s := S256x2048) ![0, o] ![256, n] h).shape.Idx → Elt Ideal .bf16} (hx : Chunk (n := n) x W o) :
    Rep (⟨Rect.unit (s := S256x2048) ![0, o] ![256, n] h, x⟩ :: L) W (o + n) := fun r k hk => by
  by_cases hlt : k.val < o
  · refine (View.canon_cons_of_not_mem _ L ?_).trans (hL r k hlt)
    intro hm
    obtain ⟨y, hy⟩ := (Rect.unit (s := S256x2048) ![0, o] ![256, n] h).exists_idx_of_mem hm
    have h1 : ((Rect.unit (s := S256x2048) ![0, o] ![256, n] h).idx y 1).val = k.val := congrArg (fun z : S256x2048.Idx => (z 1).val) hy
    rw [Rect.idx_unit_val] at h1
    exact absurd (Nat.le_add_right o (y 1).val) (not_le_of_gt (h1 ▸ hlt))
  · have hb : k.val - o < n := by omega
    have he : (Rect.unit (s := S256x2048) ![0, o] ![256, n] h).emb (ix2 r ⟨k.val - o, hb⟩ : (⟨2, ![256, n]⟩ : Shape).Idx) = ix2 r k := by
      funext u
      refine Fin.ext ((Rect.idx_unit_val _ _ _ _ u).trans ?_)
      fin_cases u
      · exact Nat.zero_add _
      · exact (show o + (k.val - o) = k.val by omega)
    rw [← he]
    refine (View.canon_cons_emb (Val := Elt Ideal) _ x L _).trans ((hx r ⟨k.val - o, hb⟩).trans ?_)
    exact congrArg (W r) (show o + (k.val - o) = k.val by omega)

/-- The buffer read back whole, up to column `e`. -/
theorem Rep.read {L : List (View.Piece (Elt Ideal) S256x2048 .bf16)} {W : Fin 256 → ℕ → EReal} {e : ℕ} (hL : Rep L W e) (he : e ≤ 2048) (h)
    (v : View sig .tc .vmem S256x2048 .bf16) : Chunk (n := e) (v.readCov (Val := Elt Ideal) L (Rect.unit (s := S256x2048) ![0, 0] ![256, e] h).toLoadRect) W 0 := fun r k => by
  rw [View.readCov_eq_canon']
  have hi : (Rect.unit (s := S256x2048) ![0, 0] ![256, e] h).toLoadRect.idx (ix2 r k : (⟨2, ![256, e]⟩ : Shape).Idx) = ix2 r ⟨k.val, by omega⟩ := by
    funext u
    refine Fin.ext ((Rect.idx_unit_val _ _ _ _ u).trans ?_)
    fin_cases u
    · exact Nat.zero_add _
    · exact Nat.zero_add _
  exact (congrArg (View.canon L) hi).trans ((hL r ⟨k.val, by omega⟩ k.isLt).trans (congrArg (W r) (Nat.zero_add _).symm))

/-- A tile's output: every row is its softmax of the values, normalised. -/
theorem tile_out {e : ℕ} (he : e ≤ 2048) (hF : ∀ r k, e ≤ k → F r k = ⊥) {p : (⟨2, ![256, e]⟩ : Shape).Idx → EReal} (hp : Chunk p (tileWeights F) 0)
    (x2 : Vec Ideal S1x2048x128 .bf16) (hv) {mm : FVec Ideal S256x128 .f32}
    (hmm : ∀ r d, mm (ix2 r d) = ∑ k : Fin e, p (ix2 r k) * View.ld x2 (Rect.unit ![0, 0, 0] ![1, e, 128] hv) (ix3 0 k d))
    {l : FVec Ideal S256x1 .f32} (hl : SumTo l (tileWeights F) e) (g : FVec Ideal S1x128 .f32) (r : Fin 256) (d : Fin 128) :
    NORM g (QUOT mm l) (ix2 r d) = rms (row (F r) (blockVals x2)) d * g (ix2 0 d) := by
  have hq : ∀ d, QUOT mm l (ix2 r d) = row (F r) (blockVals x2) d := fun d => by
    refine (quot_at mm l r d).trans (congrArg₂ Ideal.div ((hmm r d).trans ?_) ((hl r).trans (tot_cut (F r) e he (hF r))))
    refine Eq.trans ?_ (sum_cut (F r) (fun k => blockVals x2 k d) e he (hF r))
    refine Eq.trans (Finset.sum_congr rfl fun k _ => ?_) (Finset.sum_range fun k => wt (F r) k * blockVals x2 k d).symm
    refine congrArg₂ (· * ·) ((hp r k).trans (congrArg (wt (F r)) (Nat.zero_add _))) ?_
    refine (ld_rows x2 0 hv (by omega) k d).trans ?_
    unfold blockVals
    rw [dif_pos (show k.val < 2048 by omega)]
    exact congrArg (fun z => x2 (ix3 0 z d)) (Fin.ext (Nat.zero_add _))
  refine (norm_at g _ r d).trans (congrArg₂ (· * ·) (congrArg (fun o => rms o d) (funext hq)) rfl)

/-- The output block: a query's row is its softmax of the values, normalised, times the head's weight. -/
def OUT (x0 x1 x2 : Vec Ideal S1x2048x128 .bf16) (x3 : Vec Ideal S2048x128 .f32) (x4 : Vec Ideal S1x8x2048 .f32) (x5 : Vec Ideal S16x128 .f32) (j : Fin 5) : Vec Ideal S2048x128 .bf16 :=
  fun y => rms (row (blockScores x0 x1 x3 x4 j (y 0)) (blockVals x2)) (y 1) * x5 (ix2 ⟨11 + j.val, by omega⟩ (y 1))

/-- A tile's element is the output block's. -/
theorem tile_at (x0 x1 x2 : Vec Ideal S1x2048x128 .bf16) (x3 : Vec Ideal S2048x128 .f32) (x4 : Vec Ideal S1x8x2048 .f32) (x5 : Vec Ideal S16x128 .f32) (j : Fin 5)
    {a e : ℕ} (ha : a + 256 ≤ 2048) (he : a + 256 = e) {p : (⟨2, ![256, e]⟩ : Shape).Idx → EReal} (hp : Chunk p (tileWeights (tileScores x0 x1 x3 x4 j a ha)) 0)
    (hv) {mm : FVec Ideal S256x128 .f32}
    (hmm : ∀ r d, mm (ix2 r d) = ∑ k : Fin e, p (ix2 r k) * View.ld x2 (Rect.unit ![0, 0, 0] ![1, e, 128] hv) (ix3 0 k d))
    {l : FVec Ideal S256x1 .f32} (hl : SumTo l (tileWeights (tileScores x0 x1 x3 x4 j a ha)) e)
    {off : Fin 2 → ℕ} (hoff : off = ![j.val + 11, 0]) (hg) (y : S256x128.Idx) (z : S2048x128.Idx) (h0 : (z 0).val = a + (y 0).val) (h1 : (z 1).val = (y 1).val) :
    NORM (View.ld x5 (Rect.unit off S1x128.size hg)) (QUOT mm l) y = OUT x0 x1 x2 x3 x4 x5 j z := by
  subst hoff
  have hz : z = ix2 (at_ a ha (y 0)) (y 1) := (eq_ix2 (n0 := 2048) (n1 := 128) z).trans (congrArg₂ ix2 (Fin.ext h0) (Fin.ext h1))
  rw [hz, eq_ix2 (n0 := 256) (n1 := 128) y]
  refine (tile_out (by omega) (tile_bot x0 x1 x3 x4 j a ha he) hp x2 hv hmm hl _ (y 0) (y 1)).trans ?_
  refine congrArg₂ (· * ·) rfl (View.ld_unit_apply_of x5 _ _ hg (ix2 0 (y 1)) (ix2 ⟨11 + j.val, by omega⟩ (y 1)) fun u => ?_)
  fin_cases u
  · exact Nat.add_comm _ _
  · exact (Nat.zero_add _).symm

/-- The last tile's element, its last chunk's weights added to the sum where the product is taken. -/
theorem tile_last (x0 x1 x2 : Vec Ideal S1x2048x128 .bf16) (x3 : Vec Ideal S2048x128 .f32) (x4 : Vec Ideal S1x8x2048 .f32) (x5 : Vec Ideal S16x128 .f32) (j : Fin 5)
    {p : FVec Ideal S256x2048 .bf16} (hp : Chunk (n := 2048) p (tileWeights (tileScores x0 x1 x3 x4 j 1792 (by decide))) 0) {M l : FVec Ideal S256x1 .f32} {s : FVec Ideal S256x512 .f32}
    (hl : SumTo l (tileWeights (tileScores x0 x1 x3 x4 j 1792 (by decide))) 1536)
    (hs : Chunk (exp (subf s (broadcastTo S256x512 M broadcasts_S256x1_S256x512))) (tileWeights (tileScores x0 x1 x3 x4 j 1792 (by decide))) 1536)
    {off : Fin 2 → ℕ} (hoff : off = ![j.val + 11, 0]) (hg) (y : S256x128.Idx) (z : S2048x128.Idx) (h0 : (z 0).val = 1792 + (y 0).val) (h1 : (z 1).val = (y 1).val) :
    k0_pay1 (View.ld x5 (Rect.unit off S1x128.size hg)) (k0_pay144 M l s p x2) (k0_pay145 M l s p x2) y
      = OUT x0 x1 x2 x3 x4 x5 j z :=
  tile_at x0 x1 x2 x3 x4 x5 j (e := 2048) (by decide) rfl hp (inb_rows (by decide)) (fun r d => (pv2048_at p x2 r d).trans (Finset.sum_congr rfl fun k _ => congrArg (p (ix2 r k) * ·) (((ld_rows x2 0 (inb_rows (by decide)) (by decide) k d).trans (congrArg (fun z => x2 (ix3 0 z d)) (Fin.ext (Nat.zero_add _)))).symm))) (hl.step512 hs) hoff hg y z h0 h1

end Cert.FoxIdeal.Value
-- ==== Proof.FoxBlock.lean ====
/- The forgetting attention's kernel: the block one grid point leaves, tile by tile. -/
module

public import proofs.«01_k».proof.Proof.Gen.FoxIdeal.Value
public import proofs.«01_k».proof.Proof.FoxChunks

@[expose] public section

set_option maxRecDepth 65536
set_option maxHeartbeats 4000000

noncomputable section

open Idealize.ShloMosaic Idealize.ShloMosaic.TcCoe Idealize.SL.Sem
open Idealize.ShloMosaic.Pipeline (Dat)

namespace Cert.FoxIdeal.Value

open Cert.FoxIdeal Cert.FoxIdeal.Gen Cert.SoftmaxRow

variable (m : (ℓ : Loc nD τ sig) → Buf (Elt Ideal) ℓ)

/-- The block a grid point leaves is the attention of its own blocks. -/
theorem after_at (c : Dev nD) (t : Fin cfg0.N) (y : S2048x128.Idx) :
    (dats m 0 c).after 6 t y = OUT (iblk m c 0 t) (iblk m c 1 t) (iblk m c 2 t) (iblk m c 3 t) (iblk m c 4 t) (iblk m c 5 t) (grid0.coords t 1) y := by
  rw [after0_6]
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  canon_tiles y h
  case piece7 =>
    have s0 := last256 X0 X1 X3 X4 (i := grid0.coords t) (j := grid0.coords t 1) rfl (a := 0) (by decide) (k0_off2_eq _)
    have M := (top256 s0).all (by decide) (tile_bot X0 X1 X3 X4 _ 0 (by decide) rfl)
    have e0 := s0.ex256 M
    exact tile_at X0 X1 X2 X3 X4 X5 _ (by decide) rfl e0.pb256 (inb_rows (by decide)) (fun r d => pv256_at _ _ r d) (sum0.step256 e0) (k0_off1_eq _) _ _ _ (h0.trans (Nat.zero_add _).symm) h1
  case piece6 =>
    have s0 := last512 X0 X1 X3 X4 (i := grid0.coords t) (j := grid0.coords t 1) rfl (a := 256) (o := 0) (by decide) rfl (k0_off3_eq _)
    have M := (top512 s0).all (by decide) (tile_bot X0 X1 X3 X4 _ 256 (by decide) rfl)
    have e0 := s0.ex512 M
    exact tile_at X0 X1 X2 X3 X4 X5 _ (by decide) rfl e0.pb512 (inb_rows (by decide)) (fun r d => pv512_at _ _ r d) (sum0.step512 e0) (k0_off1_eq _) _ _ _ h0 h1
  case piece5 =>
    have s0 := open512 X0 X1 X3 X4 (i := grid0.coords t) (j := grid0.coords t 1) rfl (a := 512) (by decide) (o := 0) (by decide) (k0_off3_eq _)
    have s1 := last256 X0 X1 X3 X4 (i := grid0.coords t) (j := grid0.coords t 1) rfl (a := 512) (by decide) (k0_off4_eq _)
    have M := ((top512 s0).step256 s1).all (by decide) (tile_bot X0 X1 X3 X4 _ 512 (by decide) rfl)
    have e0 := s0.ex512 M
    have e1 := s1.ex256 M
    exact tile_at X0 X1 X2 X3 X4 X5 _ (by decide) rfl ((((rep0 _ _).cons _ e0.pb512).cons _ e1.pb256).read (by decide) _ _) (inb_rows (by decide)) (fun r d => pv768_at _ _ r d) ((sum0.step512 e0).step256 e1) (k0_off1_eq _) _ _ _ h0 h1
  case piece4 =>
    have s0 := open512 X0 X1 X3 X4 (i := grid0.coords t) (j := grid0.coords t 1) rfl (a := 768) (by decide) (o := 0) (by decide) (k0_off3_eq _)
    have s1 := last512 X0 X1 X3 X4 (i := grid0.coords t) (j := grid0.coords t 1) rfl (a := 768) (o := 512) (by decide) rfl (k0_off5_eq _)
    have M := ((top512 s0).step512 s1).all (by decide) (tile_bot X0 X1 X3 X4 _ 768 (by decide) rfl)
    have e0 := s0.ex512 M
    have e1 := s1.ex512 M
    exact tile_at X0 X1 X2 X3 X4 X5 _ (by decide) rfl ((((rep0 _ _).cons _ e0.pb512).cons _ e1.pb512).read (by decide) _ _) (inb_rows (by decide)) (fun r d => pv1024_at _ _ r d) ((sum0.step512 e0).step512 e1) (k0_off1_eq _) _ _ _ h0 h1
  case piece3 =>
    have s0 := open512 X0 X1 X3 X4 (i := grid0.coords t) (j := grid0.coords t 1) rfl (a := 1024) (by decide) (o := 0) (by decide) (k0_off3_eq _)
    have s1 := open512 X0 X1 X3 X4 (i := grid0.coords t) (j := grid0.coords t 1) rfl (a := 1024) (by decide) (o := 512) (by decide) (k0_off5_eq _)
    have s2 := last256 X0 X1 X3 X4 (i := grid0.coords t) (j := grid0.coords t 1) rfl (a := 1024) (by decide) (k0_off6_eq _)
    have M := (((top512 s0).step512 s1).step256 s2).all (by decide) (tile_bot X0 X1 X3 X4 _ 1024 (by decide) rfl)
    have e0 := s0.ex512 M
    have e1 := s1.ex512 M
    have e2 := s2.ex256 M
    exact tile_at X0 X1 X2 X3 X4 X5 _ (by decide) rfl (((((rep0 _ _).cons _ e0.pb512).cons _ e1.pb512).cons _ e2.pb256).read (by decide) _ _) (inb_rows (by decide)) (fun r d => pv1280_at _ _ r d) (((sum0.step512 e0).step512 e1).step256 e2) (k0_off1_eq _) _ _ _ h0 h1
  case piece2 =>
    have s0 := open512 X0 X1 X3 X4 (i := grid0.coords t) (j := grid0.coords t 1) rfl (a := 1280) (by decide) (o := 0) (by decide) (k0_off3_eq _)
    have s1 := open512 X0 X1 X3 X4 (i := grid0.coords t) (j := grid0.coords t 1) rfl (a := 1280) (by decide) (o := 512) (by decide) (k0_off5_eq _)
    have s2 := last512 X0 X1 X3 X4 (i := grid0.coords t) (j := grid0.coords t 1) rfl (a := 1280) (o := 1024) (by decide) rfl (k0_off7_eq _)
    have M := (((top512 s0).step512 s1).step512 s2).all (by decide) (tile_bot X0 X1 X3 X4 _ 1280 (by decide) rfl)
    have e0 := s0.ex512 M
    have e1 := s1.ex512 M
    have e2 := s2.ex512 M
    exact tile_at X0 X1 X2 X3 X4 X5 _ (by decide) rfl (((((rep0 _ _).cons _ e0.pb512).cons _ e1.pb512).cons _ e2.pb512).read (by decide) _ _) (inb_rows (by decide)) (fun r d => pv1536_at _ _ r d) (((sum0.step512 e0).step512 e1).step512 e2) (k0_off1_eq _) _ _ _ h0 h1
  case piece1 =>
    have s0 := open512 X0 X1 X3 X4 (i := grid0.coords t) (j := grid0.coords t 1) rfl (a := 1536) (by decide) (o := 0) (by decide) (k0_off3_eq _)
    have s1 := open512 X0 X1 X3 X4 (i := grid0.coords t) (j := grid0.coords t 1) rfl (a := 1536) (by decide) (o := 512) (by decide) (k0_off5_eq _)
    have s2 := open512 X0 X1 X3 X4 (i := grid0.coords t) (j := grid0.coords t 1) rfl (a := 1536) (by decide) (o := 1024) (by decide) (k0_off7_eq _)
    have s3 := last256 X0 X1 X3 X4 (i := grid0.coords t) (j := grid0.coords t 1) rfl (a := 1536) (by decide) (k0_off8_eq _)
    have M := ((((top512 s0).step512 s1).step512 s2).step256 s3).all (by decide) (tile_bot X0 X1 X3 X4 _ 1536 (by decide) rfl)
    have e0 := s0.ex512 M
    have e1 := s1.ex512 M
    have e2 := s2.ex512 M
    have e3 := s3.ex256 M
    exact tile_at X0 X1 X2 X3 X4 X5 _ (by decide) rfl ((((((rep0 _ _).cons _ e0.pb512).cons _ e1.pb512).cons _ e2.pb512).cons _ e3.pb256).read (by decide) _ _) (inb_rows (by decide)) (fun r d => pv1792_at _ _ r d) ((((sum0.step512 e0).step512 e1).step512 e2).step256 e3) (k0_off1_eq _) _ _ _ h0 h1
  case piece0 =>
    generalize hR0 : (ms0_0 t).view.read (Elt Ideal) ((hs0_0 t).unread X0) = R0
    rw [Memref.IsWhole.read_unread] at hR0
    subst hR0
    generalize hR1 : (ms0_1 t).view.read (Elt Ideal) ((hs0_1 t).unread X1) = R1
    rw [Memref.IsWhole.read_unread] at hR1
    subst hR1
    generalize hR3 : (ms0_3 t).view.read (Elt Ideal) ((hs0_3 t).unread X3) = R3
    rw [Memref.IsWhole.read_unread] at hR3
    subst hR3
    generalize hR4 : (ms0_4 t).view.read (Elt Ideal) ((hs0_4 t).unread X4) = R4
    rw [Memref.IsWhole.read_unread] at hR4
    subst hR4
    have s0 := open512 X0 X1 X3 X4 (i := grid0.coords t) (j := grid0.coords t 1) rfl (a := 1792) (by decide) (o := 0) (by decide) (k0_off3_eq _)
    have s1 := open512 X0 X1 X3 X4 (i := grid0.coords t) (j := grid0.coords t 1) rfl (a := 1792) (by decide) (o := 512) (by decide) (k0_off5_eq _)
    have s2 := open512 X0 X1 X3 X4 (i := grid0.coords t) (j := grid0.coords t 1) rfl (a := 1792) (by decide) (o := 1024) (by decide) (k0_off7_eq _)
    have s3 := last512 X0 X1 X3 X4 (i := grid0.coords t) (j := grid0.coords t 1) rfl (a := 1792) (o := 1536) (by decide) rfl (k0_off9_eq _)
    have M := ((((top512 s0).step512 s1).step512 s2).step512 s3).all (by decide) (tile_bot X0 X1 X3 X4 _ 1792 (by decide) rfl)
    have e0 := s0.ex512 M
    have e1 := s1.ex512 M
    have e2 := s2.ex512 M
    have e3 := s3.ex512 M
    refine tile_last X0 X1 X2 X3 X4 X5 (grid0.coords t 1) ?hp ?hl ?hs (k0_off1_eq _) _ _ _ h0 h1
    case hs => exact e3
    case hp => exact ((((rep0 _ _).cons _ e0.pb512).cons _ e1.pb512).cons _ e2.pb512).cons _ e3.pb512 |>.read (by decide) _ _
    case hl => exact ((sum0.step512 e0).step512 e1).step512 e2

end Cert.FoxIdeal.Value
-- ==== Proof.FoxRefSteps.lean ====
/- The forgetting attention's reference as a composition of its steps. -/
module

public import proofs.«01_k».proof.Proof.Gen.FoxRefIdeal.Run
public import Idealize.ShloMosaic.Lib.Pointwise

@[expose] public section

set_option maxRecDepth 16384

noncomputable section

open Idealize.ShloMosaic Idealize.ShloMosaic.TcCoe Idealize.SL.Sem

namespace Cert.FoxRefIdeal.Value

open Cert.FoxRefIdeal Cert.FoxRefIdeal.Gen

/-- The heads, by sequence. -/
def HEADS (x : FVec Ideal S48x16384x128 .bf16) : FVec Ideal S8x48x2048x128 .f32 :=
  transpose S8x48x2048x128 [1, 0, 2, 3] (shapeCast S48x8x2048x128 (extf .f32 x bitsLt_bf16_f32) shapeCasts_S48x16384x128_S48x8x2048x128) transposes_S48x8x2048x128_S8x48x2048x128_1_0_2_3

/-- The scores: the products of queries and keys, plus the query's accumulated gate, less the key's. -/
def SCORE (x : FVec Ideal S48x16384x128 .bf16) (cc : FVec Ideal S16384x128 .f32) (cr : FVec Ideal S8x8x2048 .f32) : FVec Ideal S8x5x2048x2048 .f32 :=
  subf (addf (Host.dotGeneral dot_S8x5x2048x128_S8x5x2048x128_S8x5x2048x2048_3_3_2_2_01_01 none (extractStridedSlice S8x5x2048x128 ![0, 33, 0, 0] (HEADS x) slices_S8x48x2048x128_S8x5x2048x128_0_33_0_0) (extractStridedSlice S8x5x2048x128 ![0, 38, 0, 0] (HEADS x) slices_S8x48x2048x128_S8x5x2048x128_0_38_0_0)) (broadcastInDim S8x5x2048x2048 ![0, 1, 2, 3] bcast_S8x5x2048x1_S8x5x2048x2048_0_1_2_3 (broadcastInDim S8x5x2048x1 ![0, 1, 2] bcast_S8x5x2048_S8x5x2048x1_0_1_2 (transpose S8x5x2048 [0, 2, 1] (extractStridedSlice S8x2048x5 ![0, 0, 0] (shapeCast S8x2048x128 cc shapeCasts_S16384x128_S8x2048x128) slices_S8x2048x128_S8x2048x5_0_0_0) transposes_S8x2048x5_S8x5x2048_0_2_1)))) (broadcastInDim S8x5x2048x2048 ![0, 1, 2, 3] bcast_S8x5x1x2048_S8x5x2048x2048_0_1_2_3 (broadcastInDim S8x5x1x2048 ![0, 1, 3] bcast_S8x5x2048_S8x5x1x2048_0_1_3 (extractStridedSlice S8x5x2048 ![0, 0, 0] cr slices_S8x8x2048_S8x5x2048_0_0_0)))

/-- The scores, minus infinity beyond the query's own position. -/
def MASKED (x : FVec Ideal S48x16384x128 .bf16) (cc : FVec Ideal S16384x128 .f32) (cr : FVec Ideal S8x8x2048 .f32) : FVec Ideal S8x5x2048x2048 .f32 :=
  select (broadcastInDim S8x5x2048x2048 ![2, 3] bcast_S2048x2048_S8x5x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (SCORE x cc cr) (broadcastInDim S8x5x2048x2048 ![] bcast_S_S8x5x2048x2048 (id (constant S_ .f32 0xFF800000#32)))

/-- Each row's largest score. -/
def LARGEST (s : FVec Ideal S8x5x2048x2048 .f32) : FVec Ideal S8x5x2048 .f32 :=
  Host.reduce FloatOps.maximumf s (constant S_ .f32 0xFF800000#32) reducesTo_S8x5x2048x2048_S8x5x2048_d3 h_S_

/-- The scores' exponentials, less each row's largest score. -/
def WEIGHT (s : FVec Ideal S8x5x2048x2048 .f32) : FVec Ideal S8x5x2048x2048 .f32 :=
  Host.exp (subf s (broadcastInDim S8x5x2048x2048 ![0, 1, 2, 3] bcast_S8x5x2048x1_S8x5x2048x2048_0_1_2_3 (broadcastInDim S8x5x2048x1 ![0, 1, 2] bcast_S8x5x2048_S8x5x2048x1_0_1_2 (maximumf (broadcastInDim S8x5x2048 ![] bcast_S_S8x5x2048 (constant S_ .f32 0xFF800000#32)) (LARGEST s)))))

/-- The values weighted by the softmax of the scores. -/
def MIX (w : FVec Ideal S8x5x2048x2048 .f32) (x : FVec Ideal S48x16384x128 .bf16) : FVec Ideal S8x5x2048x128 .f32 :=
  Host.dotGeneral dot_S8x5x2048x2048_S8x5x2048x128_S8x5x2048x128_3_2_2_3_01_01 none (Host.divf w (broadcastInDim S8x5x2048x2048 ![0, 1, 2, 3] bcast_S8x5x2048x1_S8x5x2048x2048_0_1_2_3 (broadcastInDim S8x5x2048x1 ![0, 1, 2] bcast_S8x5x2048_S8x5x2048x1_0_1_2 (Host.reduceAdd w (constant S_ .f32 0x00000000#32) reducesTo_S8x5x2048x2048_S8x5x2048_d3 h_S_)))) (extractStridedSlice S8x5x2048x128 ![0, 43, 0, 0] (HEADS x) slices_S8x48x2048x128_S8x5x2048x128_0_43_0_0)

/-- Each head divided by its root mean square, times the head's weight. -/
def NORMED (o : FVec Ideal S8x5x2048x128 .f32) (g : FVec Ideal S16x128 .f32) : FVec Ideal S16384x640 .bf16 :=
  truncf .bf16 (shapeCast S16384x640 (transpose S8x2048x5x128 [0, 2, 1, 3] (mulf (mulf o (broadcastInDim S8x5x2048x128 ![0, 1, 2, 3] bcast_S8x5x2048x1_S8x5x2048x128_0_1_2_3 (Host.rsqrt (addf (Host.divf (broadcastInDim S8x5x2048x1 ![0, 1, 2] bcast_S8x5x2048_S8x5x2048x1_0_1_2 (Host.reduceAdd (mulf o o) (constant S_ .f32 0x00000000#32) reducesTo_S8x5x2048x128_S8x5x2048_d3 h_S_)) (broadcastInDim S8x5x2048x1 ![] bcast_S_S8x5x2048x1 (constant S_ .f32 0x43000000#32))) (broadcastInDim S8x5x2048x1 ![] bcast_S_S8x5x2048x1 (constant S_ .f32 0x358637BD#32)))))) (broadcastInDim S8x5x2048x128 ![0, 1, 2, 3] bcast_S1x5x1x128_S8x5x2048x128_0_1_2_3 (broadcastInDim S1x5x1x128 ![1, 3] bcast_S5x128_S1x5x1x128_1_3 (extractStridedSlice S5x128 ![11, 0] g slices_S16x128_S5x128_11_0)))) transposes_S8x5x2048x128_S8x2048x5x128_0_2_1_3) shapeCasts_S8x2048x5x128_S16384x640) bitsLt_bf16_f32

/-- What the reference computes of its arguments. -/
def REF (x : FVec Ideal S48x16384x128 .bf16) (cc : FVec Ideal S16384x128 .f32) (cr : FVec Ideal S8x8x2048 .f32) (g : FVec Ideal S16x128 .f32) : FVec Ideal S16384x640 .bf16 :=
  NORMED (MIX (WEIGHT (MASKED x cc cr)) x) g

set_option maxHeartbeats 4000000 in
/-- The reference's run, its result in these words. -/
theorem res_eq (m : (ℓ : Loc nD τ sig) → Buf (Elt Ideal) ℓ) (c : Dev nD) : res_main_v52 m c
    = REF (m ((c.tc : Thread nD τ).loc main_arg0)) (m ((c.tc : Thread nD τ).loc main_arg1)) (m ((c.tc : Thread nD τ).loc main_arg2)) (m ((c.tc : Thread nD τ).loc main_arg3)) := rfl

end Cert.FoxRefIdeal.Value

end
-- ==== Proof.FoxRefValue.lean ====
/- The forgetting attention's reference, at an element: a query's scores up to its own position, their softmax, the weighted
   values and the normalisation of the head. -/
module

public import proofs.«01_k».proof.Proof.FoxRefSteps
public import proofs.«01_k».proof.Proof.SoftmaxRow
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxRefIdeal.Value

open Cert.FoxRefIdeal Cert.FoxRefIdeal.Gen Cert.SoftmaxRow

/-- The row of the arrays that holds position `i` of sequence `b`. -/
def pos (b : Fin 8) (i : Fin 2048) : Fin 16384 := ⟨b.val * 2048 + i.val, by omega⟩

/-- One score of head `j`: query `i` against key `k`. -/
def score (x : FVec Ideal S48x16384x128 .bf16) (cc : FVec Ideal S16384x128 .f32) (cr : FVec Ideal S8x8x2048 .f32) (b : Fin 8) (j : Fin 5) (i k : Fin 2048) : EReal :=
  (∑ d : Fin 128, x (ix3 ⟨33 + j.val, by omega⟩ (pos b i) d) * x (ix3 ⟨38 + j.val, by omega⟩ (pos b k) d)) + cc (ix2 (pos b i) ⟨j.val, by omega⟩) - cr (ix3 b ⟨j.val, by omega⟩ k)

/-- Query `i`'s row of scores, masked beyond its own position. -/
def scores (x : FVec Ideal S48x16384x128 .bf16) (cc : FVec Ideal S16384x128 .f32) (cr : FVec Ideal S8x8x2048 .f32) (b : Fin 8) (j : Fin 5) (i : Fin 2048) (k : ℕ) : EReal :=
  if h : k ≤ i.val then score x cc cr b j i ⟨k, by omega⟩ else ⊥

/-- Head `j`'s values. -/
def vals (x : FVec Ideal S48x16384x128 .bf16) (b : Fin 8) (j : Fin 5) (k : ℕ) (d : Fin 128) : EReal :=
  if h : k < 2048 then x (ix3 ⟨43 + j.val, by omega⟩ (pos b ⟨k, h⟩) d) else 0

/-- The reference's scores at an element. -/
theorem score_at (x : FVec Ideal S48x16384x128 .bf16) (cc : FVec Ideal S16384x128 .f32) (cr : FVec Ideal S8x8x2048 .f32) (b : Fin 8) (j : Fin 5) (i k : Fin 2048) :
    SCORE x cc cr (ix4 b j i k) = score x cc cr b j i k := by
  pointwise [SCORE, HEADS, score, pos]

/-- The masked scores at an element. -/
theorem masked_at (x : FVec Ideal S48x16384x128 .bf16) (cc : FVec Ideal S16384x128 .f32) (cr : FVec Ideal S8x8x2048 .f32) (b : Fin 8) (j : Fin 5) (i k : Fin 2048) :
    MASKED x cc cr (ix4 b j i k) = scores x cc cr b j i k.val := by
  unfold scores
  simp only [← score_at]
  unfold MASKED
  generalize SCORE x cc cr = S
  pointwise []
  rw [WordCmp.cmpi_sle_ofNat (by omega) (by omega), WordCmp.select_ofBool]
  by_cases h : k.val ≤ i.val
  · rw [if_pos (decide_eq_true h), dif_pos h]
  · rw [if_neg (by simp only [decide_eq_true_eq]; exact h), dif_neg h]
    exact ofBits_bot

/-- A row's largest score. -/
theorem largest_at (s : FVec Ideal S8x5x2048x2048 .f32) (b : Fin 8) (j : Fin 5) (i : Fin 2048) (f : ℕ → EReal) (hf : ∀ k : Fin 2048, s (ix4 b j i k) = f k.val) :
    LARGEST s (ix3 b j i) = mx f := by
  refine Eq.trans ?_ ((fold_max fun k : Fin 2048 => f k.val).trans (mx_fin f))
  pointwise [LARGEST, hf]

/-- The larger of the least float and anything is the latter. -/
theorem floor_at (M : FVec Ideal S8x5x2048 .f32) (b : Fin 8) (j : Fin 5) (i : Fin 2048) :
    maximumf (broadcastInDim S8x5x2048 ![] bcast_S_S8x5x2048 (constant S_ .f32 0xFF800000#32)) M (ix3 b j i) = M (ix3 b j i) := by
  pointwise []
  rw [ofBits_bot]
  exact max_eq_right bot_le

/-- The exponential of the scores less one number for each row. -/
theorem less_at (s : FVec Ideal S8x5x2048x2048 .f32) (M : FVec Ideal S8x5x2048 .f32) (b : Fin 8) (j : Fin 5) (i k : Fin 2048) :
    Host.exp (subf s (broadcastInDim S8x5x2048x2048 ![0, 1, 2, 3] bcast_S8x5x2048x1_S8x5x2048x2048_0_1_2_3 (broadcastInDim S8x5x2048x1 ![0, 1, 2] bcast_S8x5x2048_S8x5x2048x1_0_1_2 M))) (ix4 b j i k) = Ideal.exp (s (ix4 b j i k) - M (ix3 b j i)) := by
  pointwise []

/-- The weights at an element. -/
theorem weight_at (s : FVec Ideal S8x5x2048x2048 .f32) (b : Fin 8) (j : Fin 5) (i k : Fin 2048) (f : ℕ → EReal) (hf : ∀ k : Fin 2048, s (ix4 b j i k) = f k.val) :
    WEIGHT s (ix4 b j i k) = wt f k.val :=
  (less_at s _ b j i k).trans (congrArg₂ (fun x y : EReal => Ideal.exp (x - y)) (hf k) ((floor_at _ b j i).trans (largest_at s b j i f hf)))

/-- The weighted values at an element. -/
theorem mix_at (w : FVec Ideal S8x5x2048x2048 .f32) (x : FVec Ideal S48x16384x128 .bf16) (b : Fin 8) (j : Fin 5) (i : Fin 2048) (d : Fin 128) (f : ℕ → EReal)
    (hf : ∀ k : Fin 2048, w (ix4 b j i k) = wt f k.val) : MIX w x (ix4 b j i d) = rowShares f (vals x b j) d := by
  unfold rowShares tot
  pointwise [MIX, HEADS, hf]
  rw [Finset.sum_range, Finset.sum_range]
  refine Finset.sum_congr rfl fun k _ => ?_
  unfold vals pos
  rw [dif_pos k.isLt]

/-- The normalised heads at an element. -/
theorem normed_at (o : FVec Ideal S8x5x2048x128 .f32) (g : FVec Ideal S16x128 .f32) (r : Fin 16384) (n : Fin 640) :
    NORMED o g (ix2 r n) = rms (fun d => o (ix4 ⟨r.val / 2048, by omega⟩ ⟨n.val / 128, by omega⟩ ⟨r.val % 2048, by omega⟩ d)) ⟨n.val % 128, by omega⟩
      * g (ix2 ⟨11 + n.val / 128, by omega⟩ ⟨n.val % 128, by omega⟩) := by
  unfold rms width eps
  pointwise [NORMED]

/-- The reference at an element. -/
theorem ref_at (x : FVec Ideal S48x16384x128 .bf16) (cc : FVec Ideal S16384x128 .f32) (cr : FVec Ideal S8x8x2048 .f32) (g : FVec Ideal S16x128 .f32)
    (r : Fin 16384) (n : Fin 640) : REF x cc cr g (ix2 r n)
      = rms (rowShares (scores x cc cr ⟨r.val / 2048, by omega⟩ ⟨n.val / 128, by omega⟩ ⟨r.val % 2048, by omega⟩) (vals x ⟨r.val / 2048, by omega⟩ ⟨n.val / 128, by omega⟩)) ⟨n.val % 128, by omega⟩
        * g (ix2 ⟨11 + n.val / 128, by omega⟩ ⟨n.val % 128, by omega⟩) := by
  unfold REF
  rw [normed_at]
  congr 2
  funext d
  exact mix_at _ x _ _ _ d _ fun k => weight_at _ _ _ _ k _ fun k => masked_at x cc cr _ _ _ k

end Cert.FoxRefIdeal.Value

end
-- ==== Proof.FoxValue.lean ====
/- The forgetting attention: the array the kernel leaves is the reference's. -/
module

public import proofs.«01_k».proof.Proof.FoxBlock
public import proofs.«01_k».proof.Proof.FoxRefValue

@[expose] public section

set_option maxRecDepth 16384

noncomputable section

open Idealize.ShloMosaic Idealize.ShloMosaic.TcCoe Idealize.SL.Sem
open Idealize.ShloMosaic.Pipeline (Dat)

namespace Cert.FoxIdeal.Value

open Cert.FoxIdeal Cert.FoxIdeal.Gen Cert.SoftmaxRow
open Cert.FoxRefIdeal.Value (REF ref_at pos score scores vals)

variable (m : (ℓ : Loc nD τ sig) → Buf (Elt Ideal) ℓ)

/-- The blocks' indices: point `t` is head `t % 5` of sequence `t / 5`. -/
theorem idx : ∀ t : Fin cfg0.N, win0_0.index t = ![33 + t.val % 5, t.val / 5, 0] ∧ win0_1.index t = ![38 + t.val % 5, t.val / 5, 0]
    ∧ win0_2.index t = ![43 + t.val % 5, t.val / 5, 0] ∧ win0_3.index t = ![t.val / 5, 0] ∧ win0_4.index t = ![t.val / 5, 0, 0]
    ∧ win0_5.index t = ![0, 0] ∧ win0_6.index t = ![t.val / 5, t.val % 5] ∧ (grid0.coords t 1).val = t.val % 5 :=
  (by decide +kernel : ∀ t : Fin grid0.N, _)

/-- The queries. -/
theorem q_at (c : Dev nD) (t : Fin cfg0.N) (i : Fin 2048) (d : Fin 128) (R : Fin 16384) (hR : R.val = t.val / 5 * 2048 + i.val) (H : Fin 48) (hH : H.val = 33 + t.val % 5) :
    (iblk m c 0 t : Vec Ideal S1x2048x128 .bf16) (ix3 0 i d) = m ((c : Thread nD τ).loc main_arg0) (ix3 H R d) := by
  blk_point [iblk, V, idx t]

/-- The keys. -/
theorem k_at (c : Dev nD) (t : Fin cfg0.N) (i : Fin 2048) (d : Fin 128) (R : Fin 16384) (hR : R.val = t.val / 5 * 2048 + i.val) (H : Fin 48) (hH : H.val = 38 + t.val % 5) :
    (iblk m c 1 t : Vec Ideal S1x2048x128 .bf16) (ix3 0 i d) = m ((c : Thread nD τ).loc main_arg0) (ix3 H R d) := by
  blk_point [iblk, V, idx t]

/-- The values. -/
theorem v_at (c : Dev nD) (t : Fin cfg0.N) (i : Fin 2048) (d : Fin 128) (R : Fin 16384) (hR : R.val = t.val / 5 * 2048 + i.val) (H : Fin 48) (hH : H.val = 43 + t.val % 5) :
    (iblk m c 2 t : Vec Ideal S1x2048x128 .bf16) (ix3 0 i d) = m ((c : Thread nD τ).loc main_arg0) (ix3 H R d) := by
  blk_point [iblk, V, idx t]

/-- The cumulative gates of the queries. -/
theorem cc_at (c : Dev nD) (t : Fin cfg0.N) (i : Fin 2048) (n : Fin 128) (R : Fin 16384) (hR : R.val = t.val / 5 * 2048 + i.val) :
    (iblk m c 3 t : Vec Ideal S2048x128 .f32) (ix2 i n) = m ((c : Thread nD τ).loc main_arg1) (ix2 R n) := by
  blk_point [iblk, V, idx t]

/-- The cumulative gates of the keys. -/
theorem cr_at (c : Dev nD) (t : Fin cfg0.N) (n : Fin 8) (k : Fin 2048) (B : Fin 8) (hB : B.val = t.val / 5) :
    (iblk m c 4 t : Vec Ideal S1x8x2048 .f32) (ix3 0 n k) = m ((c : Thread nD τ).loc main_arg2) (ix3 B n k) := by
  blk_point [iblk, V, idx t]

/-- The heads' weights. -/
theorem g_at (c : Dev nD) (t : Fin cfg0.N) (n : Fin 16) (d : Fin 128) :
    (iblk m c 5 t : Vec Ideal S16x128 .f32) (ix2 n d) = m ((c : Thread nD τ).loc main_arg3) (ix2 n d) := by
  blk_point [iblk, V, idx t]

/-- A row of the block's scores is the row of the sequence's. -/
theorem scores_at (c : Dev nD) (t : Fin cfg0.N) (i : Fin 2048) (b : Fin 8) (j : Fin 5) (hb : b.val = t.val / 5) (hj : j.val = t.val % 5) :
    blockScores (iblk m c 0 t) (iblk m c 1 t) (iblk m c 3 t) (iblk m c 4 t) j i
      = scores (m ((c : Thread nD τ).loc main_arg0)) (m ((c : Thread nD τ).loc main_arg1)) (m ((c : Thread nD τ).loc main_arg2)) b j i := by
  funext k
  unfold blockScores scores
  refine dite_congr rfl (fun h => ?_) (fun _ => rfl)
  have hp : ∀ n : Fin 2048, (pos b n).val = t.val / 5 * 2048 + n.val := fun n => by simp only [pos, hb]
  exact congrArg₂ (· - ·) (congrArg₂ (· + ·) (Finset.sum_congr rfl fun d _ => congrArg₂ (· * ·)
    (q_at m c t i d (pos b i) (hp i) ⟨33 + j.val, by omega⟩ (by simp only [hj])) (k_at m c t _ d (pos b _) (hp _) ⟨38 + j.val, by omega⟩ (by simp only [hj])))
    (cc_at m c t i _ (pos b i) (hp i))) (cr_at m c t _ _ b hb)

/-- The block's values are the head's. -/
theorem vals_at (c : Dev nD) (t : Fin cfg0.N) (b : Fin 8) (j : Fin 5) (hb : b.val = t.val / 5) (hj : j.val = t.val % 5) :
    blockVals (iblk m c 2 t) = vals (m ((c : Thread nD τ).loc main_arg0)) b j := by
  funext k d
  unfold blockVals vals
  refine dite_congr rfl (fun h => ?_) (fun _ => rfl)
  exact v_at m c t _ d (pos b _) (by simp only [pos, hb]) ⟨43 + j.val, by omega⟩ (by simp only [hj])

/-- One element of the block left at point `t` is the reference's element there. -/
theorem point (c : Dev nD) (t : Fin cfg0.N) (y : S2048x128.Idx) (R : Fin 16384) (N : Fin 640) (hR : R.val = t.val / 5 * 2048 + (y 0).val)
    (hN : N.val = t.val % 5 * 128 + (y 1).val) : (dats m 0 c).after 6 t y
    = REF (m ((c : Thread nD τ).loc main_arg0)) (m ((c : Thread nD τ).loc main_arg1)) (m ((c : Thread nD τ).loc main_arg2)) (m ((c : Thread nD τ).loc main_arg3)) (ix2 R N) := by
  have hy0 : (y 0).val < 2048 := (y 0).isLt
  have hy1 : (y 1).val < 128 := (y 1).isLt
  have hj : (grid0.coords t 1).val = t.val % 5 := (idx t).2.2.2.2.2.2.2
  have ht : t.val < 40 := t.isLt
  have e0 : (⟨R.val % 2048, by omega⟩ : Fin 2048) = y 0 := Fin.ext (by simp only [hR]; omega)
  have e1 : (⟨N.val % 128, by omega⟩ : Fin 128) = y 1 := Fin.ext (by simp only [hN]; omega)
  have ej : (⟨N.val / 128, by omega⟩ : Fin 5) = grid0.coords t 1 := Fin.ext (by simp only [hN, hj]; omega)
  have hb : R.val / 2048 = t.val / 5 := by omega
  rw [after_at, ref_at, e0, e1, ej]
  unfold OUT
  rw [scores_at m c t (y 0) ⟨R.val / 2048, by omega⟩ (grid0.coords t 1) hb hj, vals_at m c t ⟨R.val / 2048, by omega⟩ (grid0.coords t 1) hb hj]
  refine congrArg₂ (· * ·) (rms_row _ _ _) ((g_at m c t _ _).trans ?_)
  exact congrArg (fun n => m ((c : Thread nD τ).loc main_arg3) (ix2 n (y 1))) (Fin.ext (by simp only [← ej]))

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  have h0 : ((win0_6.blk t).view.emb y 0).val = t.val / 5 * 2048 + (y 0).val := by blk_simp [idx t]
  have h1 : ((win0_6.blk t).view.emb y 1).val = t.val % 5 * 128 + (y 1).val := by blk_simp [idx t]
  exact (point m c t y _ _ h0 h1).trans (congrArg (REF _ _ _ _) (eq_ix2 (n0 := 16384) (n1 := 640) _).symm)

end Cert.FoxIdeal.Value
-- ==== Proof.StickRow.lean ====
/- One query's stick-breaking weights, as extended reals: each key breaks off its share of what the later keys leave. The
   logarithm of what a key leaves is written in two ways, and what the keys after it leave together as a sum from the next
   key on or as a sum from the key itself on, less the key's own term. -/
module

public import Idealize.ShloMosaic.PureOps.Ideal
public import Idealize.ShloMosaic.Lib.Pointwise

@[expose] public section

noncomputable section

open Idealize.ShloMosaic

namespace Cert.StickRow

/-- The softplus of `y`, less the case that is no number. -/
def softplus (y : EReal) : EReal := max y 0 + Ideal.log1p (Ideal.exp (-max (y - 0) (-(y - 0))))

/-- The logarithm of the sigmoid. -/
def logSig (x : EReal) : EReal := -softplus (-x)

/-- The logarithm of what a score leaves of the stick. -/
def log1m (z : EReal) : EReal := min (0 - z) 0 - Ideal.log (1 + Ideal.exp (0 - max z (-z)))

/-- What key `k` leaves of query `i`'s stick, as a logarithm: keys from `i` on leave it whole. -/
def miss (f : ℕ → EReal) (i k : ℕ) : EReal := if k < i then log1m (f k) else 0

/-- What the keys from `k` on leave together. -/
def tail (f : ℕ → EReal) (i k : ℕ) : EReal := ∑ n ∈ Finset.Ico k 2048, miss f i n

/-- Key `k`'s weight. -/
def wgt (f : ℕ → EReal) (i k : ℕ) : EReal := if k < i then Ideal.exp (f k + log1m (f k) + tail f i (k + 1)) else 0

/-- A query's weighted values. -/
def mixed (f : ℕ → EReal) (i : ℕ) (v : ℕ → Fin 128 → EReal) (d : Fin 128) : EReal := ∑ k ∈ Finset.range 2048, wgt f i k * v k d

/-- Key `k`'s weight, the later keys' terms as the sum from `k` on less `k`'s own. -/
def wgtRef (f : ℕ → EReal) (i k : ℕ) : EReal := if k < i then Ideal.exp (logSig (f k) + (tail f i k - miss f i k)) else 0

/-- The logarithm of one plus an exponential is a real number. -/
theorem log_one_add (r : ℝ) : Ideal.log (1 + Ideal.exp (r : EReal)) = ((Real.log (1 + Real.exp r) : ℝ) : EReal) := by
  show Ideal.log (((1 : ℝ) : EReal) + ((Real.exp r : ℝ) : EReal)) = _
  rw [← EReal.coe_add]
  exact if_neg (not_le_of_gt (add_pos one_pos (Real.exp_pos r)))

/-- Of a real score. -/
theorem log1m_coe (r : ℝ) : log1m (r : EReal) = ((min (-r) 0 - Real.log (1 + Real.exp (-max r (-r))) : ℝ) : EReal) := by
  unfold log1m
  have h : (0 - max (r : EReal) (-(r : EReal)) : EReal) = ((-max r (-r) : ℝ) : EReal) := by
    rw [zero_sub, ← EReal.coe_neg r, ← EReal.coe_strictMono.monotone.map_max, ← EReal.coe_neg]
  rw [h, log_one_add, zero_sub, ← EReal.coe_neg, ← EReal.coe_zero, ← EReal.coe_strictMono.monotone.map_min, ← EReal.coe_sub]

theorem softplus_coe (r : ℝ) : softplus (r : EReal) = ((max r 0 + Real.log (1 + Real.exp (-max r (-r))) : ℝ) : EReal) := by
  unfold softplus Ideal.log1p
  have h : (-max ((r : EReal) - 0) (-((r : EReal) - 0)) : EReal) = ((-max r (-r) : ℝ) : EReal) := by
    rw [sub_zero, ← EReal.coe_neg, ← EReal.coe_strictMono.monotone.map_max, ← EReal.coe_neg]
  rw [h, log_one_add, ← EReal.coe_zero, ← EReal.coe_strictMono.monotone.map_max, ← EReal.coe_add]

theorem log_one : Ideal.log (1 + 0) = 0 := by
  rw [add_zero]
  show (if (1 : ℝ) ≤ 0 then ⊥ else ((Real.log 1 : ℝ) : EReal)) = 0
  rw [if_neg (by norm_num), Real.log_one]
  rfl

theorem log1m_top : log1m ⊤ = ⊥ := by
  unfold log1m
  have h : (0 - max ⊤ (-⊤) : EReal) = ⊥ := by simp
  rw [h, show Ideal.exp ⊥ = 0 from rfl, log_one]
  simp

theorem log1m_bot : log1m ⊥ = 0 := by
  unfold log1m
  have h : (0 - max ⊥ (-⊥) : EReal) = ⊥ := by simp
  rw [h, show Ideal.exp ⊥ = 0 from rfl, log_one]
  simp

theorem softplus_top : softplus ⊤ = ⊤ := by
  unfold softplus Ideal.log1p
  have h : (-max (⊤ - 0) (-(⊤ - 0)) : EReal) = ⊥ := by simp
  rw [h, show Ideal.exp ⊥ = 0 from rfl, log_one]
  simp

theorem softplus_bot : softplus ⊥ = 0 := by
  unfold softplus Ideal.log1p
  have h : (-max (⊥ - 0) (-(⊥ - 0)) : EReal) = ⊥ := by simp
  rw [h, show Ideal.exp ⊥ = 0 from rfl, log_one]
  simp

/-- The two ways to write what a score leaves. -/
theorem logSig_neg (z : EReal) : logSig (-z) = log1m z := by
  unfold logSig
  rw [neg_neg]
  induction z with
  | bot => rw [softplus_bot, log1m_bot, neg_zero]
  | top => rw [softplus_top, log1m_top]; rfl
  | coe r =>
    rw [softplus_coe, log1m_coe, ← EReal.coe_neg]
    congr 1
    have : min (-r) 0 = -max r 0 := by rw [← neg_zero, min_neg_neg, neg_zero]
    rw [this]
    ring

/-- Of a real score, the logarithm of the sigmoid is the score plus the logarithm of what it leaves. -/
theorem logSig_coe (r : ℝ) : logSig (r : EReal) = (r : EReal) + log1m (r : EReal) := by
  unfold logSig
  rw [← EReal.coe_neg, softplus_coe, log1m_coe, ← EReal.coe_neg, ← EReal.coe_add]
  congr 1
  rw [neg_neg, max_comm (-r) r]
  have : r + min (-r) 0 = -max (-r) 0 := by
    rcases le_total r 0 with h | h
    · rw [min_eq_right (by linarith), max_eq_left (by linarith)]; ring
    · rw [min_eq_left (by linarith), max_eq_right (by linarith)]; ring
  linarith

/-- What a score leaves is never infinite. -/
theorem log1m_ne_top (z : EReal) : log1m z ≠ ⊤ := by
  induction z with
  | bot => rw [log1m_bot]; exact EReal.zero_ne_top
  | top => rw [log1m_top]; exact bot_ne_top
  | coe r => rw [log1m_coe]; exact EReal.coe_ne_top _

theorem miss_ne_top (f : ℕ → EReal) (i k : ℕ) : miss f i k ≠ ⊤ := by
  unfold miss
  split
  · exact log1m_ne_top _
  · exact EReal.zero_ne_top

/-- The sum from `k` on is `k`'s term and the sum from the next key on. -/
theorem tail_succ (f : ℕ → EReal) (i k : ℕ) (hk : k < 2048) : tail f i k = miss f i k + tail f i (k + 1) :=
  Finset.sum_eq_sum_Ico_succ_bot hk _

/-- The two ways to write a weight. -/
theorem wgt_eq (f : ℕ → EReal) (i k : ℕ) (hk : k < 2048) : wgt f i k = wgtRef f i k := by
  unfold wgt wgtRef
  refine if_ctx_congr Iff.rfl (fun h => ?_) fun _ => rfl
  rw [tail_succ f i k hk]
  generalize tail f i (k + 1) = T
  have hm : miss f i k = log1m (f k) := if_pos h
  rw [hm]
  generalize f k = z
  induction z with
  | bot =>
    have : logSig ⊥ = ⊥ := by unfold logSig; rw [EReal.neg_bot, softplus_top]; rfl
    rw [this, EReal.bot_add, EReal.bot_add, EReal.bot_add]
  | top =>
    have h : (⊥ + T : EReal) = ⊥ := EReal.bot_add T
    rw [log1m_top, EReal.add_bot, h, EReal.bot_sub, EReal.add_bot]
  | coe r =>
    rw [logSig_coe, log1m_coe, add_comm (Real.toEReal (min (-r) 0 - _)) T, EReal.add_sub_cancel_right]

/-- From the tile's end on every key leaves the stick whole. -/
theorem tail_end (f : ℕ → EReal) (i k : ℕ) (h : i ≤ k) : tail f i k = 0 :=
  Finset.sum_eq_zero fun n hn => if_neg (by have := (Finset.mem_Ico.mp hn).1; omega)

/-- The sum from `o` on, from a chunk of 256 keys and the sum after it. -/
theorem tail_chunk (f : ℕ → EReal) (i o : ℕ) (h : o + 256 ≤ 2048) : tail f i o = tail f i (o + 256) + ∑ k : Fin 256, miss f i (o + k.val) := by
  unfold tail
  rw [← Finset.sum_Ico_consecutive _ (Nat.le_add_right o 256) h, add_comm, Finset.sum_Ico_eq_sum_range _ o (o + 256), Nat.add_sub_cancel_left, Finset.sum_range]

/-- The sum from the next key on, from the chunk's later keys and the sum after the chunk. -/
theorem tail_within (f : ℕ → EReal) (i o : ℕ) (h : o + 256 ≤ 2048) (k : Fin 256) :
    tail f i (o + k.val + 1) = (∑ n : Fin 256, if k.val < n.val then miss f i (o + n.val) else 0) + tail f i (o + 256) := by
  unfold tail
  rw [← Finset.sum_Ico_consecutive _ (show o + k.val + 1 ≤ o + 256 by omega) h]
  congr 1
  rw [← Finset.sum_range fun n => if k.val < n then miss f i (o + n) else 0, ← Finset.sum_filter]
  have : Finset.Ico (o + k.val + 1) (o + 256) = ((Finset.range 256).filter fun n => k.val < n).map (addLeftEmbedding o) := by
    ext n
    simp only [Finset.mem_Ico, Finset.mem_map, Finset.mem_filter, Finset.mem_range, addLeftEmbedding_apply]
    constructor
    · intro hn
      exact ⟨n - o, ⟨by omega, by omega⟩, by omega⟩
    · rintro ⟨a, ha, rfl⟩
      omega
  rw [this, Finset.sum_map]
  rfl

/-- A term and its rounding's remainder, exact as they are here, against a factor of zero or one. -/
theorem split_mul (x : EReal) (hx : x ≠ ⊤) (p : Prop) [Decidable p] : x * (if p then 1 else 0) + (x - x) * (if p then 1 else 0) = if p then x else 0 := by
  split
  · rw [mul_one, mul_one]
    induction x with
    | bot => rfl
    | top => exact absurd rfl hx
    | coe r => rw [← EReal.coe_sub, sub_self, EReal.coe_zero, add_zero]
  · rw [mul_zero, mul_zero, add_zero]

end Cert.StickRow

end
-- ==== Proof.StickTiles.lean ====
/- The stick-breaking attention's kernel, in words: a tile of 256 queries against a chunk of 256 keys. -/
module

public import proofs.«01_k».proof.Proof.Gen.StickIdeal.Skeleton
public import proofs.«01_k».proof.Proof.FoxChunks
public import proofs.«01_k».proof.Proof.StickRow

@[expose] public section

set_option maxRecDepth 16384

noncomputable section

open Idealize.ShloMosaic Idealize.ShloMosaic.TcCoe Idealize.SL.Sem

namespace Cert.StickIdeal.Value

open Cert.StickIdeal Cert.StickIdeal.Gen Cert.StickRow
open Cert.FoxIdeal.Value (at_ Col Chunk ld_rows inb_rows)

/-- Zeros. -/
def ZS : FVec Ideal S256x256 .f32 := broadcast S256x256 (Scalar.ofBits .f32 0x00000000#32)

/-- A column of zeros. -/
def ZC : FVec Ideal S256x1 .f32 := broadcast S256x1 (Scalar.ofBits .f32 0x00000000#32)

/-- The logarithms of what the scores leave. -/
def L1M (z : FVec Ideal S256x256 .f32) : FVec Ideal S256x256 .f32 :=
  subf (minimumf (subf ZS z) ZS) (log (addf (broadcast S256x256 (Scalar.ofBits .f32 0x3F800000#32)) (exp (subf ZS (absf z)))))

/-- The same, zero from the diagonal on. -/
def ML1M (z : FVec Ideal S256x256 .f32) : FVec Ideal S256x256 .f32 := select k0_pay3 (L1M z) ZS

/-- What the chunk's keys after each key leave: a product with ones below the diagonal. -/
def AFTER (x : FVec Ideal S256x256 .f32) : FVec Ideal S256x256 .f32 :=
  matmul dot_S256x512_S512x256_S256x256_1_0_0_1_n_n none (concatenate S256x512 1 [⟨S256x256, truncf .bf16 x bitsLt_bf16_f32⟩, ⟨S256x256, truncf .bf16 (subf x (extf .f32 (truncf .bf16 x bitsLt_bf16_f32) bitsLt_bf16_f32)) bitsLt_bf16_f32⟩] concatenates_S256x256_S256x256_S256x512_d1) k0_pay2 (constant S256x256 .f32 0x00000000#32)

/-- The exponentials, given what the later chunks leave. -/
def EX (z x : FVec Ideal S256x256 .f32) (l : FVec Ideal S256x1 .f32) : FVec Ideal S256x256 .f32 :=
  exp (addf (addf z (L1M z)) (addf (AFTER x) (broadcastTo S256x256 l broadcasts_S256x1_S256x256)))

/-- The weights of the tile's own keys. -/
def OWN (z : FVec Ideal S256x256 .f32) (l : FVec Ideal S256x1 .f32) : FVec Ideal S256x256 .bf16 :=
  shapeCast S256x256 (truncf .bf16 (select k0_pay3 (EX z (ML1M z) l) ZS) bitsLt_bf16_f32) shapeCasts_S256x256_S256x256

/-- The weights of earlier keys. -/
def EARLIER (z : FVec Ideal S256x256 .f32) (l : FVec Ideal S256x1 .f32) : FVec Ideal S256x256 .bf16 :=
  shapeCast S256x256 (truncf .bf16 (EX z (L1M z) l) bitsLt_bf16_f32) shapeCasts_S256x256_S256x256

/-- What the chunk leaves, added to what the later chunks leave. -/
def LAT (l : FVec Ideal S256x1 .f32) (x : FVec Ideal S256x256 .f32) : FVec Ideal S256x1 .f32 :=
  addf l (shapeCast S256x1 (multiReduction .add [1] S256 x 0x00000000#32 reduces_S256x256_S256 (.inl rfl) rfl) shapeCasts_S256_S256x1)

theorem zc_at (r : Fin 256) : ZC (ix2 r 0) = 0 := by
  pointwise [ZC]

/-- The scores at an element. -/
theorem score_at (q k : FVec Ideal S1x256x128 .bf16) (r n : Fin 256) : k0_pay4 (F := Ideal) q k (ix2 r n) = ∑ d : Fin 128, q (ix3 0 r d) * k (ix3 0 n d) := by
  pointwise [k0_pay4]

theorem l1m_at (z : FVec Ideal S256x256 .f32) (r n : Fin 256) : L1M z (ix2 r n) = log1m (z (ix2 r n)) := by
  unfold log1m
  pointwise [L1M, ZS]
  rfl

theorem below_at (x y : FVec Ideal S256x256 .f32) (r n : Fin 256) : select k0_pay3 x y (ix2 r n) = if n.val < r.val then x (ix2 r n) else y (ix2 r n) := by
  pointwise [k0_pay3]
  rw [WordCmp.cmpi_slt_ofNat (by omega) (by omega), WordCmp.select_ofBool]
  simp only [decide_eq_true_eq]

theorem zs_at (r n : Fin 256) : ZS (ix2 r n) = 0 := by
  pointwise [ZS]

theorem ml1m_at (z : FVec Ideal S256x256 .f32) (r n : Fin 256) : ML1M z (ix2 r n) = if n.val < r.val then log1m (z (ix2 r n)) else 0 :=
  (below_at _ _ r n).trans (if_congr Iff.rfl (l1m_at z r n) (zs_at r n))

/-- Half of the ones below the diagonal. -/
theorem ones_at (n k : Fin 256) : select (cmpi .sgt (iota .tc S256x256 32 [0] iota_S256x256_d0_w32) (iota .tc S256x256 32 [1] iota_S256x256_d1_w32)) (broadcast S256x256 (Scalar.ofBits (F := Ideal) .f32 0x3F800000#32)) (broadcast S256x256 (Scalar.ofBits .f32 0x00000000#32)) (ix2 n k) = if k.val < n.val then (1 : EReal) else 0 := by
  pointwise []
  rw [WordCmp.cmpi_sgt_ofNat (by omega) (by omega), WordCmp.select_ofBool]
  simp only [decide_eq_true_eq]

/-- The ones below the diagonal, twice. -/
theorem suffix_at (n : Fin 512) (k : Fin 256) : k0_pay2 (F := Ideal) (ix2 n k) = if k.val < n.val % 256 then (1 : EReal) else 0 := by
  unfold k0_pay2
  have h := ones_at (k := k)
  generalize select (cmpi .sgt (iota .tc S256x256 32 [0] iota_S256x256_d0_w32) (iota .tc S256x256 32 [1] iota_S256x256_d1_w32)) (broadcast S256x256 (Scalar.ofBits (F := Ideal) .f32 0x3F800000#32)) (broadcast S256x256 (Scalar.ofBits .f32 0x00000000#32)) = S at h
  pointwise [h]
  split
  · exact if_congr (by omega) rfl rfl
  · exact if_congr (by omega) rfl rfl

theorem after_at (x : FVec Ideal S256x256 .f32) (r k : Fin 256) (hx : ∀ n, x (ix2 r n) ≠ ⊤) : AFTER x (ix2 r k) = ∑ n : Fin 256, if k.val < n.val then x (ix2 r n) else 0 := by
  unfold AFTER
  have h := suffix_at (k := k)
  generalize k0_pay2 (F := Ideal) = S at h
  pointwise [h]
  rw [← Finset.sum_add_distrib]
  refine Finset.sum_congr rfl fun n _ => ?_
  rw [Nat.add_mod_left, Nat.mod_eq_of_lt n.isLt]
  exact split_mul _ (hx n) _

theorem ex_at (z x : FVec Ideal S256x256 .f32) (l : FVec Ideal S256x1 .f32) (r n : Fin 256) :
    EX z x l (ix2 r n) = Ideal.exp (z (ix2 r n) + log1m (z (ix2 r n)) + (AFTER x (ix2 r n) + l (ix2 r 0))) := by
  have h := l1m_at z r n
  unfold EX
  generalize L1M z = Z at h
  generalize AFTER x = A
  pointwise [h]

theorem cast_at (e : FVec Ideal S256x256 .f32) (r n : Fin 256) : shapeCast S256x256 (truncf .bf16 e bitsLt_bf16_f32) shapeCasts_S256x256_S256x256 (ix2 r n) = e (ix2 r n) := by
  pointwise []

theorem own_at (z : FVec Ideal S256x256 .f32) (l : FVec Ideal S256x1 .f32) (r n : Fin 256) : OWN z l (ix2 r n) = if n.val < r.val then EX z (ML1M z) l (ix2 r n) else 0 :=
  (cast_at _ r n).trans ((below_at _ _ r n).trans (if_congr Iff.rfl rfl (zs_at r n)))

theorem earlier_at (z : FVec Ideal S256x256 .f32) (l : FVec Ideal S256x1 .f32) (r n : Fin 256) : EARLIER z l (ix2 r n) = EX z (L1M z) l (ix2 r n) :=
  cast_at _ r n

theorem lat_at (l : FVec Ideal S256x1 .f32) (x : FVec Ideal S256x256 .f32) (r : Fin 256) : LAT l x (ix2 r 0) = l (ix2 r 0) + ∑ n : Fin 256, x (ix2 r n) := by
  pointwise [LAT]

end Cert.StickIdeal.Value
-- ==== Proof.StickChunks.lean ====
/- The stick-breaking attention's kernel, chunk by chunk, from a tile's own keys back to the first: what the chunks seen so far
   leave, the weights they have written, and the tile's output once every key has been seen. -/
module

public import proofs.«01_k».proof.Proof.StickTiles

@[expose] public section

set_option maxRecDepth 16384

noncomputable section

open Idealize.ShloMosaic Idealize.ShloMosaic.TcCoe Idealize.SL.Sem

namespace Cert.StickIdeal.Value

open Cert.StickIdeal Cert.StickIdeal.Gen Cert.StickRow
open Cert.FoxIdeal.Value (at_ Col Chunk ld_rows inb_rows blockVals)
open Cert.SoftmaxRow (rms)

/-- A query's scores. -/
def blockScores (x0 x1 : Vec Ideal S1x2048x128 .bf16) (i : Fin 2048) (k : ℕ) : EReal :=
  if h : k < 2048 then ∑ d : Fin 128, x0 (ix3 0 i d) * x1 (ix3 0 ⟨k, h⟩ d) else 0

/-- The scores of a tile's queries against a chunk of keys. -/
def SC (x0 x1 : Vec Ideal S1x2048x128 .bf16) (a o : ℕ) (ha : a + 256 ≤ 2048) (ho : o + 256 ≤ 2048) : FVec Ideal S256x256 .f32 :=
  k0_pay4 (View.ld x0 (Rect.unit ![0, a, 0] S1x256x128.size (inb_rows ha))) (View.ld x1 (Rect.unit ![0, o, 0] S1x256x128.size (inb_rows ho)))

/-- The scores of a tile's rows. -/
def rowScores (x0 x1 : Vec Ideal S1x2048x128 .bf16) (a : ℕ) (ha : a + 256 ≤ 2048) (r : Fin 256) : ℕ → EReal :=
  blockScores x0 x1 (at_ a ha r)

theorem sc_at (x0 x1 : Vec Ideal S1x2048x128 .bf16) (a o : ℕ) (ha ho) : Chunk (SC x0 x1 a o ha ho) (rowScores x0 x1 a ha) o := fun r k => by
  unfold rowScores blockScores
  rw [dif_pos (show o + k.val < 2048 by omega)]
  refine (score_at _ _ r k).trans (Finset.sum_congr rfl fun d _ => congrArg₂ (· * ·) (ld_rows x0 a _ ha r d) (ld_rows x1 o _ ho k d))

/-- What the keys from `o` on leave, for each of a tile's rows. -/
def Late (l : FVec Ideal S256x1 .f32) (F : Fin 256 → ℕ → EReal) (a o : ℕ) : Prop := Col l fun r => tail (F r) (a + r.val) o

theorem late0 (F : Fin 256 → ℕ → EReal) (a : ℕ) : Late ZC F a (a + 256) := fun r =>
  (zc_at r).trans (tail_end _ _ _ (by omega)).symm

variable {F : Fin 256 → ℕ → EReal} {a o : ℕ}

theorem own_miss {z : FVec Ideal S256x256 .f32} (h : Chunk z F a) : Chunk (ML1M z) (fun r => miss (F r) (a + r.val)) a := fun r n => by
  refine (ml1m_at z r n).trans ?_
  unfold miss
  rw [h r n]
  exact if_congr (by omega) rfl rfl

theorem earlier_miss {z : FVec Ideal S256x256 .f32} (ho : o + 256 ≤ a) (h : Chunk z F o) : Chunk (L1M z) (fun r => miss (F r) (a + r.val)) o := fun r n => by
  refine (l1m_at z r n).trans ((congrArg log1m (h r n)).trans ?_)
  exact (if_pos (show o + n.val < a + r.val by omega)).symm

theorem Late.step {l : FVec Ideal S256x1 .f32} {x : FVec Ideal S256x256 .f32} (ho : o + 256 ≤ 2048) (hl : Late l F a (o + 256)) (hx : Chunk x (fun r => miss (F r) (a + r.val)) o) :
    Late (LAT l x) F a o := fun r =>
  (lat_at l x r).trans ((congrArg₂ (· + ·) (hl r) (Finset.sum_congr rfl fun n _ => hx r n)).trans (tail_chunk (F r) (a + r.val) o ho).symm)

/-- The exponential of a chunk's element. -/
theorem ex_of {z x : FVec Ideal S256x256 .f32} {l : FVec Ideal S256x1 .f32} (ho : o + 256 ≤ 2048) (hz : Chunk z F o) (hx : Chunk x (fun r => miss (F r) (a + r.val)) o) (hl : Late l F a (o + 256)) (r n : Fin 256) :
    EX z x l (ix2 r n) = Ideal.exp (F r (o + n.val) + log1m (F r (o + n.val)) + tail (F r) (a + r.val) (o + n.val + 1)) := by
  rw [ex_at, after_at x r n fun k => by rw [hx r k]; exact miss_ne_top _ _ _, hz r n, hl r, tail_within _ _ o ho n]
  refine congrArg (fun s : EReal => Ideal.exp (_ + (s + _))) (Finset.sum_congr rfl fun k _ => ?_)
  exact if_congr Iff.rfl (hx r k) rfl

/-- The weights of a tile's rows. -/
def rowWeights (F : Fin 256 → ℕ → EReal) (a : ℕ) (r : Fin 256) (k : ℕ) : EReal := wgt (F r) (a + r.val) k

theorem own_wgt {z : FVec Ideal S256x256 .f32} {l : FVec Ideal S256x1 .f32} (ha : a + 256 ≤ 2048) (hz : Chunk z F a) (hl : Late l F a (a + 256)) : Chunk (OWN z l) (rowWeights F a) a := fun r n =>
  (own_at z l r n).trans (if_congr (by omega) (ex_of ha hz (own_miss hz) hl r n) rfl)

theorem earlier_wgt {z : FVec Ideal S256x256 .f32} {l : FVec Ideal S256x1 .f32} (ha : a + 256 ≤ 2048) (ho : o + 256 ≤ a) (hz : Chunk z F o) (hl : Late l F a (o + 256)) : Chunk (EARLIER z l) (rowWeights F a) o := fun r n =>
  (earlier_at z l r n).trans ((ex_of (by omega) hz (earlier_miss ho hz) hl r n).trans (if_pos (show o + n.val < a + r.val by omega)).symm)

/-- What the writes leave in the columns from `o` to `e` of the buffer of weights. -/
def Rep (L : List (View.Piece (Elt Ideal) S256x2048 .bf16)) (W : Fin 256 → ℕ → EReal) (o e : ℕ) : Prop :=
  ∀ (r : Fin 256) (k : Fin 2048), o ≤ k.val → k.val < e → View.canon L (ix2 r k) = W r k.val

/-- A chunk written before the ones after it. -/
theorem Rep.cons {L : List (View.Piece (Elt Ideal) S256x2048 .bf16)} {W : Fin 256 → ℕ → EReal} {e : ℕ} (hL : Rep L W (o + 256) e) (h)
    {x : (Rect.unit (s := S256x2048) ![0, o] S256x256.size h).shape.Idx → Elt Ideal .bf16} (hx : Chunk (n := 256) x W o) :
    Rep (⟨Rect.unit (s := S256x2048) ![0, o] S256x256.size h, x⟩ :: L) W o e := fun r k ho hk => by
  by_cases hge : o + 256 ≤ k.val
  · refine (View.canon_cons_of_not_mem _ L ?_).trans (hL r k hge hk)
    intro hm
    obtain ⟨y, hy⟩ := (Rect.unit (s := S256x2048) ![0, o] S256x256.size h).exists_idx_of_mem hm
    have h1 : ((Rect.unit (s := S256x2048) ![0, o] S256x256.size h).idx y 1).val = k.val := congrArg (fun z : S256x2048.Idx => (z 1).val) hy
    rw [Rect.idx_unit_val] at h1
    have h2 : o + (y 1).val = k.val := h1
    have h3 : (y 1).val < 256 := (y 1).isLt
    omega
  · have he : (Rect.unit (s := S256x2048) ![0, o] S256x256.size h).emb (ix2 r ⟨k.val - o, by omega⟩ : (⟨2, ![256, 256]⟩ : Shape).Idx) = ix2 r k := by
      funext u
      refine Fin.ext ((Rect.idx_unit_val _ _ _ _ u).trans ?_)
      fin_cases u
      · exact Nat.zero_add _
      · exact (show o + (k.val - o) = k.val by omega)
    rw [← he]
    refine (View.canon_cons_emb (Val := Elt Ideal) _ x L _).trans ((hx r ⟨k.val - o, by omega⟩).trans ?_)
    exact congrArg (W r) (show o + (k.val - o) = k.val by omega)

/-- A tile's state once the keys from `o` on have been seen: the weights written and what those keys leave. -/
structure Seen (x0 x1 : Vec Ideal S1x2048x128 .bf16) (a : ℕ) (ha : a + 256 ≤ 2048) (o : ℕ) (L : List (View.Piece (Elt Ideal) S256x2048 .bf16)) (l : FVec Ideal S256x1 .f32) : Prop where
  rep : Rep L (rowWeights (rowScores x0 x1 a ha) a) o (a + 256)
  late : Late l (rowScores x0 x1 a ha) a o

theorem inb_w {o : ℕ} (h : o + 256 ≤ 2048) : ∀ u, (![0, o] : Fin 2 → ℕ) u + S256x256.size u ≤ S256x2048.size u := by
  intro u
  fin_cases u
  · exact le_refl _
  · exact h

/-- The tile's own keys are the first it sees. -/
theorem Seen.own (x0 x1 : Vec Ideal S1x2048x128 .bf16) (a : ℕ) (ha : a + 256 ≤ 2048) (L : List (View.Piece (Elt Ideal) S256x2048 .bf16)) :
    Seen x0 x1 a ha a (⟨Rect.unit (s := S256x2048) ![0, a] S256x256.size (inb_w ha), OWN (SC x0 x1 a a ha ha) ZC⟩ :: L) (LAT ZC (ML1M (SC x0 x1 a a ha ha))) where
  rep := Rep.cons (fun _ _ h h' => absurd h (not_le_of_gt h')) _ (own_wgt ha (sc_at x0 x1 a a ha ha) (late0 _ a))
  late := (late0 _ a).step ha (own_miss (sc_at x0 x1 a a ha ha))

/-- The chunk before comes next. -/
theorem Seen.next {x0 x1 : Vec Ideal S1x2048x128 .bf16} {a : ℕ} {ha : a + 256 ≤ 2048} {L : List (View.Piece (Elt Ideal) S256x2048 .bf16)} {l : FVec Ideal S256x1 .f32} (o : ℕ) (ho : o + 256 ≤ a) (h : Seen x0 x1 a ha (o + 256) L l) :
    Seen x0 x1 a ha o (⟨Rect.unit (s := S256x2048) ![0, o] S256x256.size (inb_w (by omega)), EARLIER (SC x0 x1 a o ha (by omega)) l⟩ :: L) (LAT l (L1M (SC x0 x1 a o ha (by omega)))) where
  rep := h.rep.cons _ (earlier_wgt ha ho (sc_at x0 x1 a o ha _) h.late)
  late := h.late.step (by omega) (earlier_miss ho (sc_at x0 x1 a o ha _))

/-- The buffer read back whole, up to the tile's end. -/
theorem Seen.read {x0 x1 : Vec Ideal S1x2048x128 .bf16} {a : ℕ} {ha : a + 256 ≤ 2048} {L : List (View.Piece (Elt Ideal) S256x2048 .bf16)} {l : FVec Ideal S256x1 .f32} (hs : Seen x0 x1 a ha 0 L l) {e : ℕ} (he : a + 256 = e) (h)
    (v : View sig .tc .vmem S256x2048 .bf16) : Chunk (n := e) (v.readCov (Val := Elt Ideal) L (Rect.unit (s := S256x2048) ![0, 0] ![256, e] h).toLoadRect) (rowWeights (rowScores x0 x1 a ha) a) 0 := fun r k => by
  subst he
  rw [View.readCov_eq_canon']
  have hi : (Rect.unit (s := S256x2048) ![0, 0] ![256, a + 256] h).toLoadRect.idx (ix2 r k : (⟨2, ![256, a + 256]⟩ : Shape).Idx) = ix2 r ⟨k.val, by omega⟩ := by
    funext u
    refine Fin.ext ((Rect.idx_unit_val _ _ _ _ u).trans ?_)
    fin_cases u
    · exact Nat.zero_add _
    · exact Nat.zero_add _
  exact (congrArg (View.canon L) hi).trans ((hs.rep r ⟨k.val, by omega⟩ (Nat.zero_le _) k.isLt).trans (congrArg (rowWeights _ a r) (Nat.zero_add _).symm))

/-- The keys from the query on have no weight. -/
theorem mixed_cut (f : ℕ → EReal) (i : ℕ) (v : ℕ → Fin 128 → EReal) (d : Fin 128) (e : ℕ) (he : e ≤ 2048) (hi : i ≤ e) :
    ∑ k ∈ Finset.range e, wgt f i k * v k d = mixed f i v d :=
  Finset.sum_subset (Finset.range_mono he) fun k _ hk => by
    have : e ≤ k := by simpa using hk
    unfold wgt
    rw [if_neg (by omega), zero_mul]

/-- The output block: a query's row is its weighted values, normalised, times the head's weight. -/
def OUT (x0 x1 x2 : Vec Ideal S1x2048x128 .bf16) (x3 : Vec Ideal S16x128 .f32) (j : Fin 5) : Vec Ideal S2048x128 .bf16 :=
  fun y => rms (mixed (blockScores x0 x1 (y 0)) (y 0).val (blockVals x2)) (y 1) * x3 (ix2 ⟨6 + j.val, by omega⟩ (y 1))

/-- A tile's element is the output block's. -/
theorem tile_at (x0 x1 x2 : Vec Ideal S1x2048x128 .bf16) (x3 : Vec Ideal S16x128 .f32) (j : Fin 5) {a e : ℕ} (ha : a + 256 ≤ 2048) (he : a + 256 = e)
    {p : (⟨2, ![256, e]⟩ : Shape).Idx → EReal} (hp : Chunk p (rowWeights (rowScores x0 x1 a ha) a) 0) (hv) {mm : FVec Ideal S256x128 .f32}
    (hmm : ∀ r d, mm (ix2 r d) = ∑ k : Fin e, p (ix2 r k) * View.ld x2 (Rect.unit ![0, 0, 0] ![1, e, 128] hv) (ix3 0 k d))
    {off : Fin 2 → ℕ} (hoff : off = ![j.val + 6, 0]) (hg) (y : S256x128.Idx) (z : S2048x128.Idx) (h0 : (z 0).val = a + (y 0).val) (h1 : (z 1).val = (y 1).val) :
    Cert.FoxIdeal.Value.NORM (View.ld x3 (Rect.unit off S1x128.size hg)) mm y = OUT x0 x1 x2 x3 j z := by
  subst hoff
  have hz : z = ix2 (at_ a ha (y 0)) (y 1) := (eq_ix2 (n0 := 2048) (n1 := 128) z).trans (congrArg₂ ix2 (Fin.ext h0) (Fin.ext h1))
  have hm : ∀ d, mm (ix2 (y 0) d) = mixed (blockScores x0 x1 (at_ a ha (y 0))) (at_ a ha (y 0)).val (blockVals x2) d := fun d => by
    refine (hmm (y 0) d).trans ?_
    refine Eq.trans ?_ (mixed_cut _ _ (blockVals x2) d e (by omega) (show a + (y 0).val ≤ e by have h : (y 0).val < 256 := (y 0).isLt; omega))
    refine Eq.trans (Finset.sum_congr rfl fun k _ => ?_) (Finset.sum_range fun k => wgt (blockScores x0 x1 (at_ a ha (y 0))) (at_ a ha (y 0)).val k * blockVals x2 k d).symm
    refine congrArg₂ (· * ·) ((hp (y 0) k).trans (congrArg (wgt _ _) (Nat.zero_add _))) ?_
    refine (ld_rows x2 0 hv (by omega) k d).trans ?_
    unfold blockVals
    rw [dif_pos (show k.val < 2048 by omega)]
    exact congrArg (fun z => x2 (ix3 0 z d)) (Fin.ext (Nat.zero_add _))
  rw [hz, eq_ix2 (n0 := 256) (n1 := 128) y]
  refine (Cert.FoxIdeal.Value.norm_at _ mm (y 0) (y 1)).trans (congrArg₂ (· * ·) (congrArg (fun o => rms o (y 1)) (funext hm)) ?_)
  refine View.ld_unit_apply_of x3 _ _ hg (ix2 0 (y 1)) (ix2 ⟨6 + j.val, by omega⟩ (y 1)) fun u => ?_
  fin_cases u
  · exact Nat.add_comm _ _
  · exact (Nat.zero_add _).symm

/-- The last tile, which reads all the values. -/
theorem tile_last (x0 x1 x2 : Vec Ideal S1x2048x128 .bf16) (x3 : Vec Ideal S16x128 .f32) (j : Fin 5)
    {p : FVec Ideal S256x2048 .bf16} (hp : Chunk (n := 2048) p (rowWeights (rowScores x0 x1 1792 (by decide)) 1792) 0)
    {off : Fin 2 → ℕ} (hoff : off = ![j.val + 6, 0]) (hg) (y : S256x128.Idx) (z : S2048x128.Idx) (h0 : (z 0).val = 1792 + (y 0).val) (h1 : (z 1).val = (y 1).val) :
    k0_pay1 (k0_pay195 p x2) (k0_pay196 (View.ld x3 (Rect.unit off S1x128.size hg))) y = OUT x0 x1 x2 x3 j z :=
  tile_at x0 x1 x2 x3 j (e := 2048) (by decide) rfl hp (inb_rows (by decide)) (fun r d => (Cert.FoxIdeal.Value.pv2048_at p x2 r d).trans (Finset.sum_congr rfl fun k _ => congrArg (p (ix2 r k) * ·) (((ld_rows x2 0 (inb_rows (by decide)) (by decide) k d).trans (congrArg (fun z => x2 (ix3 0 z d)) (Fin.ext (Nat.zero_add _)))).symm))) hoff hg y z h0 h1

end Cert.StickIdeal.Value
-- ==== Proof.StickBlock.lean ====
/- The stick-breaking attention's kernel: the block one grid point leaves, tile by tile. -/
module

public import proofs.«01_k».proof.Proof.Gen.StickIdeal.Value
public import proofs.«01_k».proof.Proof.StickChunks

@[expose] public section

set_option maxRecDepth 65536
set_option maxHeartbeats 4000000

noncomputable section

open Idealize.ShloMosaic Idealize.ShloMosaic.TcCoe Idealize.SL.Sem
open Idealize.ShloMosaic.Pipeline (Dat)

namespace Cert.StickIdeal.Value

open Cert.StickIdeal Cert.StickIdeal.Gen
open Cert.FoxIdeal.Value (inb_rows pv256_at pv512_at pv768_at pv1024_at pv1280_at pv1536_at pv1792_at pv2048_at)

variable (m : (ℓ : Loc nD τ sig) → Buf (Elt Ideal) ℓ)

/-- The block a grid point leaves is the attention of its own blocks. -/
theorem block_at (c : Dev nD) (t : Fin cfg0.N) (y : S2048x128.Idx) :
    (dats m 0 c).after 4 t y = OUT (iblk m c 0 t) (iblk m c 1 t) (iblk m c 2 t) (iblk m c 3 t) (grid0.coords t 1) y := by
  rw [after0_4]
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  canon_tiles y h
  case piece7 =>
    exact tile_at X0 X1 X2 X3 (grid0.coords t 1) (by decide) rfl (own_wgt (by decide) (sc_at X0 X1 0 0 (by decide) (by decide)) (late0 _ 0)) (inb_rows (by decide)) (fun r d => pv256_at _ _ r d) (k0_off1_eq _) _ _ _ (h0.trans (Nat.zero_add _).symm) h1
  case piece6 =>
    exact tile_at X0 X1 X2 X3 (grid0.coords t 1) (by decide) rfl (((Seen.own X0 X1 256 (by decide) _).next 0 (by decide)).read rfl _ _) (inb_rows (by decide)) (fun r d => pv512_at _ _ r d) (k0_off1_eq _) _ _ _ h0 h1
  case piece5 =>
    exact tile_at X0 X1 X2 X3 (grid0.coords t 1) (by decide) rfl ((((Seen.own X0 X1 512 (by decide) _).next 256 (by decide)).next 0 (by decide)).read rfl _ _) (inb_rows (by decide)) (fun r d => pv768_at _ _ r d) (k0_off1_eq _) _ _ _ h0 h1
  case piece4 =>
    exact tile_at X0 X1 X2 X3 (grid0.coords t 1) (by decide) rfl (((((Seen.own X0 X1 768 (by decide) _).next 512 (by decide)).next 256 (by decide)).next 0 (by decide)).read rfl _ _) (inb_rows (by decide)) (fun r d => pv1024_at _ _ r d) (k0_off1_eq _) _ _ _ h0 h1
  case piece3 =>
    exact tile_at X0 X1 X2 X3 (grid0.coords t 1) (by decide) rfl ((((((Seen.own X0 X1 1024 (by decide) _).next 768 (by decide)).next 512 (by decide)).next 256 (by decide)).next 0 (by decide)).read rfl _ _) (inb_rows (by decide)) (fun r d => pv1280_at _ _ r d) (k0_off1_eq _) _ _ _ h0 h1
  case piece2 =>
    exact tile_at X0 X1 X2 X3 (grid0.coords t 1) (by decide) rfl (((((((Seen.own X0 X1 1280 (by decide) _).next 1024 (by decide)).next 768 (by decide)).next 512 (by decide)).next 256 (by decide)).next 0 (by decide)).read rfl _ _) (inb_rows (by decide)) (fun r d => pv1536_at _ _ r d) (k0_off1_eq _) _ _ _ h0 h1
  case piece1 =>
    exact tile_at X0 X1 X2 X3 (grid0.coords t 1) (by decide) rfl ((((((((Seen.own X0 X1 1536 (by decide) _).next 1280 (by decide)).next 1024 (by decide)).next 768 (by decide)).next 512 (by decide)).next 256 (by decide)).next 0 (by decide)).read rfl _ _) (inb_rows (by decide)) (fun r d => pv1792_at _ _ r d) (k0_off1_eq _) _ _ _ h0 h1
  case piece0 =>
    refine tile_last X0 X1 X2 X3 (grid0.coords t 1) ?hp (k0_off1_eq _) _ _ _ h0 h1
    exact (((((((((Seen.own X0 X1 1792 (by decide) _).next 1536 (by decide)).next 1280 (by decide)).next 1024 (by decide)).next 768 (by decide)).next 512 (by decide)).next 256 (by decide)).next 0 (by decide)).read rfl _ _)

end Cert.StickIdeal.Value
-- ==== Proof.StickRefSteps.lean ====
/- The stick-breaking attention's reference as a composition of its steps. -/
module

public import proofs.«01_k».proof.Proof.Gen.StickRefIdeal.Run
public import Idealize.ShloMosaic.Lib.Pointwise

@[expose] public section

set_option maxRecDepth 16384

noncomputable section

open Idealize.ShloMosaic Idealize.ShloMosaic.TcCoe Idealize.SL.Sem

namespace Cert.StickRefIdeal.Value

open Cert.StickRefIdeal Cert.StickRefIdeal.Gen

/-- The heads, by sequence. -/
def HEADS (x : FVec Ideal S48x16384x128 .bf16) : FVec Ideal S8x48x2048x128 .f32 :=
  transpose S8x48x2048x128 [1, 0, 2, 3] (shapeCast S48x8x2048x128 (extf .f32 x bitsLt_bf16_f32) shapeCasts_S48x16384x128_S48x8x2048x128) transposes_S48x8x2048x128_S8x48x2048x128_1_0_2_3

/-- The scores. -/
def SCORE (x : FVec Ideal S48x16384x128 .bf16) : FVec Ideal S8x5x2048x2048 .f32 :=
  Host.dotGeneral dot_S8x5x2048x128_S8x5x2048x128_S8x5x2048x2048_3_3_2_2_01_01 none (extractStridedSlice S8x5x2048x128 ![0, 18, 0, 0] (HEADS x) slices_S8x48x2048x128_S8x5x2048x128_0_18_0_0) (extractStridedSlice S8x5x2048x128 ![0, 23, 0, 0] (HEADS x) slices_S8x48x2048x128_S8x5x2048x128_0_23_0_0)

/-- Zeros. -/
def ZEROS : FVec Ideal S8x5x2048x2048 .f32 := broadcastInDim S8x5x2048x2048 ![] bcast_S_S8x5x2048x2048 (constant S_ .f32 0x00000000#32)

/-- The logarithm of the sigmoid. -/
def LOGSIG (z : FVec Ideal S8x5x2048x2048 .f32) : FVec Ideal S8x5x2048x2048 .f32 :=
  Host.negf (select (cmpf .une (subf (Host.negf z) ZEROS) (subf (Host.negf z) ZEROS)) (addf (Host.negf z) ZEROS) (addf (maximumf (Host.negf z) ZEROS) (Host.log1p (Host.exp (Host.negf (Host.absf (subf (Host.negf z) ZEROS)))))))

/-- Zero from the query's own position on. -/
def CAUSAL (y : FVec Ideal S8x5x2048x2048 .f32) : FVec Ideal S8x5x2048x2048 .f32 :=
  select (broadcastInDim S8x5x2048x2048 ![2, 3] bcast_S2048x2048_S8x5x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) y (broadcastInDim S8x5x2048x2048 ![] bcast_S_S8x5x2048x2048 (id (constant S_ .f32 0x00000000#32)))

/-- The sum along each row, from the end. -/
def CUM (y : FVec Ideal S8x5x2048x2048 .f32) : FVec Ideal S8x5x2048x2048 .f32 :=
  Host.reduceWindowAdd ![1, 1, 1, 2048] ![1, 1, 1, 1] ![0, 0, 0, 0] ![0, 0, 0, 2047] y (broadcastInDim S_ ![] bcast_S_S_ (constant S_ .f32 0x00000000#32)) reduceWindows_S8x5x2048x2048_S8x5x2048x2048_w1s1p0_0_w1s1p0_0_w1s1p0_0_w2048s1p0_2047 h_S_

/-- The weights, from the scores. -/
def WEIGHT (z : FVec Ideal S8x5x2048x2048 .f32) : FVec Ideal S8x5x2048x2048 .f32 :=
  CAUSAL (Host.exp (addf (LOGSIG z) (subf (CUM (CAUSAL (LOGSIG (Host.negf z)))) (CAUSAL (LOGSIG (Host.negf z))))))

/-- The weighted values. -/
def MIX (w : FVec Ideal S8x5x2048x2048 .f32) (x : FVec Ideal S48x16384x128 .bf16) : FVec Ideal S8x5x2048x128 .f32 :=
  Host.dotGeneral dot_S8x5x2048x2048_S8x5x2048x128_S8x5x2048x128_3_2_2_3_01_01 none w (extractStridedSlice S8x5x2048x128 ![0, 28, 0, 0] (HEADS x) slices_S8x48x2048x128_S8x5x2048x128_0_28_0_0)

/-- Each head divided by its root mean square, times the head's weight. -/
def NORMED (o : FVec Ideal S8x5x2048x128 .f32) (g : FVec Ideal S16x128 .f32) : FVec Ideal S16384x640 .bf16 :=
  truncf .bf16 (shapeCast S16384x640 (transpose S8x2048x5x128 [0, 2, 1, 3] (mulf (mulf o (broadcastInDim S8x5x2048x128 ![0, 1, 2, 3] bcast_S8x5x2048x1_S8x5x2048x128_0_1_2_3 (Host.rsqrt (addf (Host.divf (broadcastInDim S8x5x2048x1 ![0, 1, 2] bcast_S8x5x2048_S8x5x2048x1_0_1_2 (Host.reduceAdd (mulf o o) (constant S_ .f32 0x00000000#32) reducesTo_S8x5x2048x128_S8x5x2048_d3 h_S_)) (broadcastInDim S8x5x2048x1 ![] bcast_S_S8x5x2048x1 (constant S_ .f32 0x43000000#32))) (broadcastInDim S8x5x2048x1 ![] bcast_S_S8x5x2048x1 (constant S_ .f32 0x358637BD#32)))))) (broadcastInDim S8x5x2048x128 ![0, 1, 2, 3] bcast_S1x5x1x128_S8x5x2048x128_0_1_2_3 (broadcastInDim S1x5x1x128 ![1, 3] bcast_S5x128_S1x5x1x128_1_3 (extractStridedSlice S5x128 ![6, 0] g slices_S16x128_S5x128_6_0)))) transposes_S8x5x2048x128_S8x2048x5x128_0_2_1_3) shapeCasts_S8x2048x5x128_S16384x640) bitsLt_bf16_f32

/-- What the reference computes of its arguments. -/
def REF (x : FVec Ideal S48x16384x128 .bf16) (g : FVec Ideal S16x128 .f32) : FVec Ideal S16384x640 .bf16 :=
  NORMED (MIX (WEIGHT (SCORE x)) x) g

set_option maxHeartbeats 4000000 in
/-- The reference's run, its result in these words. -/
theorem res_eq (m : (ℓ : Loc nD τ sig) → Buf (Elt Ideal) ℓ) (c : Dev nD) : res_main_v39 m c
    = REF (m ((c.tc : Thread nD τ).loc main_arg0)) (m ((c.tc : Thread nD τ).loc main_arg1)) := rfl

end Cert.StickRefIdeal.Value

end
-- ==== Proof.RevCumsum.lean ====
/- The cumulative sum from the end, which prints as a sum over windows that reach past the array, at an element. -/
module

public import Idealize.ShloMosaic.PureOps.Ideal
public import Idealize.ShloMosaic.Lib.Pointwise

@[expose] public section

noncomputable section

open Idealize.ShloMosaic

namespace Cert.RevCumsum

/-- The axes of length one have one position. -/
theorem ix4_one {N : ℕ} (a b c : Fin 1) (k : Fin N) : ix4 (n0 := 1) (n1 := 1) (n2 := 1) (n3 := N) 0 0 0 k = ix4 a b c k := by
  rw [Subsingleton.elim a 0, Subsingleton.elim b 0, Subsingleton.elim c 0]

/-- The window's positions are those of its last axis. -/
def lastAxis (N : ℕ) : (⟨4, ![1, 1, 1, N]⟩ : Shape).Idx ≃ Fin N where
  toFun i := i 3
  invFun k := ix4 0 0 0 k
  left_inv i := (ix4_one (i 0) (i 1) (i 2) (i 3)).trans (eq_ix4 (n0 := 1) (n1 := 1) (n2 := 1) (n3 := N) i).symm
  right_inv _ := rfl

/-- A fold of sums is the first number and the sum of the rest. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- One term of a window's sum. -/
def term {A B C N : ℕ} (x : FVec Ideal (⟨4, ![A, B, C, N]⟩ : Shape) .f32) (a : Fin A) (b : Fin B) (c : Fin C) (k : Fin N) (w : (⟨4, ![1, 1, 1, N]⟩ : Shape).Idx) : EReal :=
  let p : Fin 4 → ℕ := fun u => ((ix4 a b c k : (⟨4, ![A, B, C, N]⟩ : Shape).Idx) u).val * (![1, 1, 1, 1] : Fin 4 → ℕ) u + (w u).val
  if hin : ∀ u, (![0, 0, 0, 0] : Fin 4 → ℕ) u ≤ p u ∧ p u - (![0, 0, 0, 0] : Fin 4 → ℕ) u < (⟨4, ![A, B, C, N]⟩ : Shape).size u then x (fun u => ⟨p u - (![0, 0, 0, 0] : Fin 4 → ℕ) u, (hin u).2⟩) else (0 : EReal)

/-- It is the element that far on, or nothing past the array. -/
theorem term_at {A B C N : ℕ} (x : FVec Ideal (⟨4, ![A, B, C, N]⟩ : Shape) .f32) (f : ℕ → EReal) (a : Fin A) (b : Fin B) (c : Fin C) (k : Fin N) (hf : ∀ n : Fin N, x (ix4 a b c n) = f n.val) (n : Fin N) :
    term x a b c k (ix4 0 0 0 n) = if n.val < N - k.val then f (k.val + n.val) else 0 := by
  unfold term
  dsimp only
  split
  · next hin =>
    have h3 : k.val * 1 + n.val - 0 < N := (hin 3).2
    rw [if_pos (by omega)]
    refine Eq.trans (congrArg x ?_) (hf ⟨k.val + n.val, by omega⟩)
    funext u
    refine Fin.ext ?_
    fin_cases u
    · exact (show a.val * 1 + 0 - 0 = a.val by omega)
    · exact (show b.val * 1 + 0 - 0 = b.val by omega)
    · exact (show c.val * 1 + 0 - 0 = c.val by omega)
    · exact (show k.val * 1 + n.val - 0 = k.val + n.val by omega)
  · next hin =>
    refine (if_neg fun hn => hin fun u => ?_).symm
    fin_cases u
    · exact (show 0 ≤ a.val * 1 + 0 ∧ a.val * 1 + 0 - 0 < A by have := a.isLt; omega)
    · exact (show 0 ≤ b.val * 1 + 0 ∧ b.val * 1 + 0 - 0 < B by have := b.isLt; omega)
    · exact (show 0 ≤ c.val * 1 + 0 ∧ c.val * 1 + 0 - 0 < C by have := c.isLt; omega)
    · exact (show 0 ≤ k.val * 1 + n.val ∧ k.val * 1 + n.val - 0 < N by omega)

/-- Element `k` of the cumulative sum from the end is the sum of the elements from `k` on. -/
theorem at_ {A B C N M : ℕ} (hM : M + 1 = N) (x : FVec Ideal (⟨4, ![A, B, C, N]⟩ : Shape) .f32) (init : (⟨0, ![]⟩ : Shape).Idx → Ideal .f32) (h) (hu) (h0 : init (Shape.Idx.first hu) = (0 : EReal))
    (f : ℕ → EReal) (a : Fin A) (b : Fin B) (c : Fin C) (k : Fin N) (hf : ∀ n : Fin N, x (ix4 a b c n) = f n.val) :
    Host.reduceWindowAdd (t := ⟨4, ![A, B, C, N]⟩) ![1, 1, 1, N] ![1, 1, 1, 1] ![0, 0, 0, 0] ![0, 0, 0, M] x init h hu (ix4 a b c k) = ∑ n ∈ Finset.Ico k.val N, f n := by
  show Host.reduceWindow (fun p q : EReal => p + q) (t := ⟨4, ![A, B, C, N]⟩) ![1, 1, 1, N] ![1, 1, 1, 1] ![0, 0, 0, 0] ![0, 0, 0, M] x (fun _ : (⟨0, ![]⟩ : Shape).Idx => init (Shape.Idx.first hu)) h (by decide) (ix4 a b c k) = _
  unfold Host.reduceWindow
  simp only [h0]
  refine (foldl_add _ _ _).trans ?_
  rw [zero_add, ← List.ofFn_eq_map, List.sum_ofFn]
  refine (Equiv.sum_comp (⟨4, ![1, 1, 1, N]⟩ : Shape).rowMajor.symm (term x a b c k)).trans ?_
  refine (Equiv.sum_comp (lastAxis N).symm (term x a b c k)).symm.trans ?_
  refine (Finset.sum_congr rfl fun n _ => (show term x a b c k ((lastAxis N).symm n) = _ from term_at x f a b c k hf n)).trans ?_
  rw [Finset.sum_Ico_eq_sum_range, ← Finset.sum_range fun n => if n < N - k.val then f (k.val + n) else 0, ← Finset.sum_filter]
  refine Finset.sum_congr (Finset.ext fun n => ?_) fun _ _ => rfl
  simp only [Finset.mem_filter, Finset.mem_range]
  omega

end Cert.RevCumsum

end
-- ==== Proof.StickRefValue.lean ====
/- The stick-breaking attention's reference, at an element: a query's scores against the keys before it, what they leave of
   the stick, the weights, the weighted values and the normalisation of the head. -/
module

public import proofs.«01_k».proof.Proof.StickRefSteps
public import proofs.«01_k».proof.Proof.StickRow
public import proofs.«01_k».proof.Proof.SoftmaxRow
public import proofs.«01_k».proof.Proof.RevCumsum
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.StickRefIdeal.Value

open Cert.StickRefIdeal Cert.StickRefIdeal.Gen Cert.StickRow
open Cert.SoftmaxRow (rms width eps)

/-- The row of the arrays that holds position `i` of sequence `b`. -/
def pos (b : Fin 8) (i : Fin 2048) : Fin 16384 := ⟨b.val * 2048 + i.val, by omega⟩

/-- Head `j`'s scores of query `i`. -/
def scores (x : FVec Ideal S48x16384x128 .bf16) (b : Fin 8) (j : Fin 5) (i : Fin 2048) (k : ℕ) : EReal :=
  if h : k < 2048 then ∑ d : Fin 128, x (ix3 ⟨18 + j.val, by omega⟩ (pos b i) d) * x (ix3 ⟨23 + j.val, by omega⟩ (pos b ⟨k, h⟩) d) else 0

/-- Head `j`'s values. -/
def vals (x : FVec Ideal S48x16384x128 .bf16) (b : Fin 8) (j : Fin 5) (k : ℕ) (d : Fin 128) : EReal :=
  if h : k < 2048 then x (ix3 ⟨28 + j.val, by omega⟩ (pos b ⟨k, h⟩) d) else 0

theorem score_at (x : FVec Ideal S48x16384x128 .bf16) (b : Fin 8) (j : Fin 5) (i k : Fin 2048) :
    SCORE x (ix4 b j i k) = scores x b j i k.val := by
  unfold scores
  rw [dif_pos k.isLt]
  pointwise [SCORE, HEADS, pos]

/-- The bits of zero. -/
theorem ofBits_zero : Ideal.ofBits .f32 0x00000000#32 = 0 := by
  simp [Ideal.ofBits, Ideal.ieee]

/-- The logarithm of the sigmoid at an element. -/
theorem logsig_at (z : FVec Ideal S8x5x2048x2048 .f32) (b : Fin 8) (j : Fin 5) (i k : Fin 2048) :
    LOGSIG z (ix4 b j i k) = logSig (z (ix4 b j i k)) := by
  unfold logSig softplus
  pointwise [LOGSIG, ZEROS]
  rw [if_neg (not_not.mpr rfl)]
  rfl

/-- The mask at an element. -/
theorem causal_at (y : FVec Ideal S8x5x2048x2048 .f32) (b : Fin 8) (j : Fin 5) (i k : Fin 2048) :
    CAUSAL y (ix4 b j i k) = if k.val < i.val then y (ix4 b j i k) else 0 := by
  unfold CAUSAL
  pointwise []
  rw [WordCmp.cmpi_slt_ofNat (by omega) (by omega), WordCmp.select_ofBool]
  simp only [decide_eq_true_eq]
  exact if_congr Iff.rfl rfl ofBits_zero

/-- What a key leaves, at an element. -/
theorem miss_at (z : FVec Ideal S8x5x2048x2048 .f32) (b : Fin 8) (j : Fin 5) (i k : Fin 2048) (f : ℕ → EReal) (hf : ∀ k : Fin 2048, z (ix4 b j i k) = f k.val) :
    CAUSAL (LOGSIG (Host.negf z)) (ix4 b j i k) = miss f i.val k.val := by
  rw [causal_at, logsig_at]
  unfold miss
  rw [← logSig_neg, ← hf k]
  rfl

/-- What the keys from one on leave, at an element. -/
theorem cum_at (y : FVec Ideal S8x5x2048x2048 .f32) (b : Fin 8) (j : Fin 5) (i k : Fin 2048) (f : ℕ → EReal) (hf : ∀ k : Fin 2048, y (ix4 b j i k) = miss f i.val k.val) :
    CUM y (ix4 b j i k) = tail f i.val k.val :=
  RevCumsum.at_ (M := 2047) rfl y _ _ _ (by pointwise []) (miss f i.val) b j i k hf

/-- An exponential of a sum and a difference, at an element. -/
theorem exp_at (s u w : FVec Ideal S8x5x2048x2048 .f32) (b : Fin 8) (j : Fin 5) (i k : Fin 2048) :
    Host.exp (addf s (subf u w)) (ix4 b j i k) = Ideal.exp (s (ix4 b j i k) + (u (ix4 b j i k) - w (ix4 b j i k))) := by
  pointwise []

/-- The weights at an element. -/
theorem weight_at (z : FVec Ideal S8x5x2048x2048 .f32) (b : Fin 8) (j : Fin 5) (i k : Fin 2048) (f : ℕ → EReal) (hf : ∀ k : Fin 2048, z (ix4 b j i k) = f k.val) :
    WEIGHT z (ix4 b j i k) = wgtRef f i.val k.val := by
  refine (causal_at _ b j i k).trans (if_congr Iff.rfl ?_ rfl)
  refine (exp_at _ _ _ b j i k).trans ?_
  rw [logsig_at, hf k, cum_at _ b j i k f fun n => miss_at z b j i n f hf, miss_at z b j i k f hf]

/-- The weighted values at an element. -/
theorem mix_at (w : FVec Ideal S8x5x2048x2048 .f32) (x : FVec Ideal S48x16384x128 .bf16) (b : Fin 8) (j : Fin 5) (i : Fin 2048) (d : Fin 128) (f : ℕ → EReal)
    (hf : ∀ k : Fin 2048, w (ix4 b j i k) = f k.val) : MIX w x (ix4 b j i d) = ∑ k ∈ Finset.range 2048, f k * vals x b j k d := by
  pointwise [MIX, HEADS, hf]
  rw [Finset.sum_range]
  refine Finset.sum_congr rfl fun k _ => ?_
  unfold vals pos
  rw [dif_pos k.isLt]

/-- The normalised heads at an element. -/
theorem normed_at (o : FVec Ideal S8x5x2048x128 .f32) (g : FVec Ideal S16x128 .f32) (r : Fin 16384) (n : Fin 640) :
    NORMED o g (ix2 r n) = rms (fun d => o (ix4 ⟨r.val / 2048, by omega⟩ ⟨n.val / 128, by omega⟩ ⟨r.val % 2048, by omega⟩ d)) ⟨n.val % 128, by omega⟩
      * g (ix2 ⟨6 + n.val / 128, by omega⟩ ⟨n.val % 128, by omega⟩) := by
  unfold rms width eps
  pointwise [NORMED]

/-- The reference at an element. -/
theorem ref_at (x : FVec Ideal S48x16384x128 .bf16) (g : FVec Ideal S16x128 .f32) (r : Fin 16384) (n : Fin 640) : REF x g (ix2 r n)
      = rms (mixed (scores x ⟨r.val / 2048, by omega⟩ ⟨n.val / 128, by omega⟩ ⟨r.val % 2048, by omega⟩) (r.val % 2048) (vals x ⟨r.val / 2048, by omega⟩ ⟨n.val / 128, by omega⟩)) ⟨n.val % 128, by omega⟩
        * g (ix2 ⟨6 + n.val / 128, by omega⟩ ⟨n.val % 128, by omega⟩) := by
  unfold REF
  rw [normed_at]
  congr 2
  funext d
  refine (mix_at _ x _ _ _ d _ fun k => weight_at _ _ _ _ k _ fun k => score_at x _ _ _ k).trans ?_
  exact Finset.sum_congr rfl fun k hk => congrArg (· * _) (wgt_eq _ _ k (Finset.mem_range.mp hk)).symm

end Cert.StickRefIdeal.Value

end
-- ==== Proof.StickValue.lean ====
/- The stick-breaking attention: the array the kernel leaves is the reference's. -/
module

public import proofs.«01_k».proof.Proof.StickBlock
public import proofs.«01_k».proof.Proof.StickRefValue

@[expose] public section

set_option maxRecDepth 16384

noncomputable section

open Idealize.ShloMosaic Idealize.ShloMosaic.TcCoe Idealize.SL.Sem
open Idealize.ShloMosaic.Pipeline (Dat)

namespace Cert.StickIdeal.Value

open Cert.StickIdeal Cert.StickIdeal.Gen
open Cert.SoftmaxRow (rms)
open Cert.StickRow (mixed)
open Cert.FoxIdeal.Value (blockVals)
open Cert.StickRefIdeal.Value (REF ref_at pos scores vals)

variable (m : (ℓ : Loc nD τ sig) → Buf (Elt Ideal) ℓ)

/-- The blocks' indices: point `t` is head `t % 5` of sequence `t / 5`. -/
theorem idx : ∀ t : Fin cfg0.N, win0_0.index t = ![18 + t.val % 5, t.val / 5, 0] ∧ win0_1.index t = ![23 + t.val % 5, t.val / 5, 0]
    ∧ win0_2.index t = ![28 + t.val % 5, t.val / 5, 0] ∧ win0_3.index t = ![0, 0] ∧ win0_4.index t = ![t.val / 5, t.val % 5]
    ∧ (grid0.coords t 1).val = t.val % 5 :=
  (by decide +kernel : ∀ t : Fin grid0.N, _)

/-- The queries. -/
theorem q_at (c : Dev nD) (t : Fin cfg0.N) (i : Fin 2048) (d : Fin 128) (R : Fin 16384) (hR : R.val = t.val / 5 * 2048 + i.val) (H : Fin 48) (hH : H.val = 18 + t.val % 5) :
    (iblk m c 0 t : Vec Ideal S1x2048x128 .bf16) (ix3 0 i d) = m ((c : Thread nD τ).loc main_arg0) (ix3 H R d) := by
  blk_point [iblk, V, idx t]

/-- The keys. -/
theorem k_at (c : Dev nD) (t : Fin cfg0.N) (i : Fin 2048) (d : Fin 128) (R : Fin 16384) (hR : R.val = t.val / 5 * 2048 + i.val) (H : Fin 48) (hH : H.val = 23 + t.val % 5) :
    (iblk m c 1 t : Vec Ideal S1x2048x128 .bf16) (ix3 0 i d) = m ((c : Thread nD τ).loc main_arg0) (ix3 H R d) := by
  blk_point [iblk, V, idx t]

/-- The values. -/
theorem v_at (c : Dev nD) (t : Fin cfg0.N) (i : Fin 2048) (d : Fin 128) (R : Fin 16384) (hR : R.val = t.val / 5 * 2048 + i.val) (H : Fin 48) (hH : H.val = 28 + t.val % 5) :
    (iblk m c 2 t : Vec Ideal S1x2048x128 .bf16) (ix3 0 i d) = m ((c : Thread nD τ).loc main_arg0) (ix3 H R d) := by
  blk_point [iblk, V, idx t]

/-- The heads' weights. -/
theorem g_at (c : Dev nD) (t : Fin cfg0.N) (n : Fin 16) (d : Fin 128) :
    (iblk m c 3 t : Vec Ideal S16x128 .f32) (ix2 n d) = m ((c : Thread nD τ).loc main_arg1) (ix2 n d) := by
  blk_point [iblk, V, idx t]

/-- A row of the block's scores is the row of the sequence's. -/
theorem scores_at (c : Dev nD) (t : Fin cfg0.N) (i : Fin 2048) (b : Fin 8) (j : Fin 5) (hb : b.val = t.val / 5) (hj : j.val = t.val % 5) :
    blockScores (iblk m c 0 t) (iblk m c 1 t) i = scores (m ((c : Thread nD τ).loc main_arg0)) b j i := by
  funext k
  unfold blockScores scores
  refine dite_congr rfl (fun h => ?_) (fun _ => rfl)
  have hp : ∀ n : Fin 2048, (pos b n).val = t.val / 5 * 2048 + n.val := fun n => by simp only [pos, hb]
  exact Finset.sum_congr rfl fun d _ => congrArg₂ (· * ·)
    (q_at m c t i d (pos b i) (hp i) ⟨18 + j.val, by omega⟩ (by simp only [hj])) (k_at m c t _ d (pos b _) (hp _) ⟨23 + j.val, by omega⟩ (by simp only [hj]))

/-- The block's values are the head's. -/
theorem vals_at (c : Dev nD) (t : Fin cfg0.N) (b : Fin 8) (j : Fin 5) (hb : b.val = t.val / 5) (hj : j.val = t.val % 5) :
    blockVals (iblk m c 2 t) = vals (m ((c : Thread nD τ).loc main_arg0)) b j := by
  funext k d
  unfold blockVals vals
  refine dite_congr rfl (fun h => ?_) (fun _ => rfl)
  exact v_at m c t _ d (pos b _) (by simp only [pos, hb]) ⟨28 + j.val, by omega⟩ (by simp only [hj])

/-- One element of the block left at point `t` is the reference's element there. -/
theorem point (c : Dev nD) (t : Fin cfg0.N) (y : S2048x128.Idx) (R : Fin 16384) (N : Fin 640) (hR : R.val = t.val / 5 * 2048 + (y 0).val)
    (hN : N.val = t.val % 5 * 128 + (y 1).val) : (dats m 0 c).after 4 t y
    = REF (m ((c : Thread nD τ).loc main_arg0)) (m ((c : Thread nD τ).loc main_arg1)) (ix2 R N) := by
  have hy0 : (y 0).val < 2048 := (y 0).isLt
  have hy1 : (y 1).val < 128 := (y 1).isLt
  have hj : (grid0.coords t 1).val = t.val % 5 := (idx t).2.2.2.2.2
  have ht : t.val < 40 := t.isLt
  have er : R.val % 2048 = (y 0).val := by omega
  have e0 : (⟨R.val % 2048, by omega⟩ : Fin 2048) = y 0 := Fin.ext er
  have e1 : (⟨N.val % 128, by omega⟩ : Fin 128) = y 1 := Fin.ext (by simp only [hN]; omega)
  have ej : (⟨N.val / 128, by omega⟩ : Fin 5) = grid0.coords t 1 := Fin.ext (by simp only [hN, hj]; omega)
  have hb : R.val / 2048 = t.val / 5 := by omega
  rw [block_at, ref_at, e0, e1, ej, er]
  unfold OUT
  rw [scores_at m c t (y 0) ⟨R.val / 2048, by omega⟩ (grid0.coords t 1) hb hj, vals_at m c t ⟨R.val / 2048, by omega⟩ (grid0.coords t 1) hb hj]
  refine congrArg (rms _ (y 1) * ·) ((g_at m c t _ _).trans ?_)
  exact congrArg (fun n => m ((c : Thread nD τ).loc main_arg1) (ix2 n (y 1))) (Fin.ext (by simp only [← ej]))

/-- The result array after the run. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  have h0 : ((win0_4.blk t).view.emb y 0).val = t.val / 5 * 2048 + (y 0).val := by blk_simp [idx t]
  have h1 : ((win0_4.blk t).view.emb y 1).val = t.val % 5 * 128 + (y 1).val := by blk_simp [idx t]
  exact (point m c t y _ _ h0 h1).trans (congrArg (REF _ _) (eq_ix2 (n0 := 16384) (n1 := 640) _).symm)

end Cert.StickIdeal.Value
-- ==== Proof.UpIdealRun.lean ====
module

public import proofs.«01_k».proof.Proof.Gen.UpIdeal.Frame
public import proofs.«01_k».proof.Proof.Gen.UpIdeal.Skeleton
public import Idealize.ShloMosaic.Lib.Pipeline.ValueKit

/-! The body of the up projection at one grid point, as a run: what it leaves in the output block and in the two
    carried halo buffers. Two cases: a first tile of a sequence (the halo rows are cleared) and a later one. -/

@[expose] public section

set_option maxRecDepth 16384

noncomputable section

namespace Cert.UpIdeal.Body

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run of the body at a first tile of a sequence, which clears its halo rows before it reads them:
    the pieces it stores in the output block and in the two halo buffers, and that it runs to them. -/
noncomputable def runA (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    Σ' (L7 : List (View.Piece (Elt F) S1024x512 .bf16)) (LS0 : List (View.Piece (Elt F) S11x8x512 .f32)), { LS1 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (∃ f, arg9.view.loc (c : Thread nD τ) ↦[arg9.view.set]{fullShare} arg9.view.writes (Elt F) f L7)
              ∗ (arg10.view.loc (c : Thread nD τ) ↦[arg10.view.set]{fullShare} arg10.view.writes (Elt F) (harg10.unread s0) LS0)
              ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_up_eq_skeleton]; unfold cc0_ffn_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexact HS0
    iexact HS1

set_option maxHeartbeats 1000000 in
/-- The run of the body at a later tile of a sequence, which reads the halo rows as the tile before left them:
    the pieces it stores in the output block and in the two halo buffers, and that it runs to them. -/
noncomputable def runB (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : ¬ k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    Σ' (L7 : List (View.Piece (Elt F) S1024x512 .bf16)) (LS0 : List (View.Piece (Elt F) S11x8x512 .f32)), { LS1 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (∃ f, arg9.view.loc (c : Thread nD τ) ↦[arg9.view.set]{fullShare} arg9.view.writes (Elt F) f L7)
              ∗ (arg10.view.loc (c : Thread nD τ) ↦[arg10.view.set]{fullShare} arg10.view.writes (Elt F) (harg10.unread s0) LS0)
              ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ffn_up_eq_skeleton]; unfold cc0_ffn_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexact HS0
    iexact HS1

/-- A row read back just after it was cleared. -/
theorem read_cleared (v : View sig .tc .vmem S11x8x512 .f32) {off off' : Fin 3 → ℕ} (h : off = off')
    (inb : ∀ a, off a + (![1, 8, 512] : Fin 3 → ℕ) a ≤ S11x8x512.size a) (inb' : ∀ a, off' a + (![1, 8, 512] : Fin 3 → ℕ) a ≤ S11x8x512.size a)
    (w : (Rect.unit (s := S11x8x512) off ![1, 8, 512] inb).shape.Idx → Elt F .f32) :
    v.readCov (Val := Elt F) [⟨Rect.unit (s := S11x8x512) off ![1, 8, 512] inb, w⟩] (Rect.unit (s := S11x8x512) off' ![1, 8, 512] inb').toLoadRect = w := by
  subst h; exact View.readCov_cons_toLoadRect v _ w []

/-- The halo rows of the column block that the point `i` works on. -/
abbrev row (i : grid0.Coords) : Rect S11x8x512 := Rect.unit (k0_off2 i) S1x8x512.size (k0_off2_inb i)

/-- The output block, from the input blocks and the two halo rows read. -/
def out (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32) (g u : Vec F S1x8x512 .f32) : Vec F S1024x512 .bf16 :=
  k0_pay1 (k0_pay10 (k0_pay3 x0 x2) u x4 x6) (k0_pay13 (k0_pay2 x0 x1) x3 (k0_pay7 x0 x1 g) (k0_pay8 x0 x1 g x3 x5) (k0_pay9 x3))

set_option maxHeartbeats 1000000 in
/-- The output block stored in case A. -/
theorem outA (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runA c i arg2 harg2 arg3 harg3 arg4 harg4 arg5 harg5 arg6 harg6 arg7 harg7 arg8 harg8 arg9 harg9 arg10 harg10 arg11 harg11 hc x0 x1 x2 x3 x4 x5 x6 s0 s1).1 = [⟨Rect.unit ![0, 0] S1024x512.size inb_S1024x512_S1024x512_0_0, out x0 x1 x2 x3 x4 x5 x6 k0_pay4 k0_pay5⟩] := by
  frame_open
  simp (disch := decide) only [View.readAt_eq_ld, View.ld_unit_lit', read_cleared _ (show k0_off1 i = k0_off2 i from rfl), Memref.IsWhole.read_unread]
  rfl

/-- The gate halo stored in case A. -/
theorem gateA (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runA c i arg2 harg2 arg3 harg3 arg4 harg4 arg5 harg5 arg6 harg6 arg7 harg7 arg8 harg8 arg9 harg9 arg10 harg10 arg11 harg11 hc x0 x1 x2 x3 x4 x5 x6 s0 s1).2.1 = [⟨row i, k0_pay11 (k0_pay2 x0 x1)⟩, ⟨Rect.unit (k0_off1 i) S1x8x512.size (k0_off1_inb i hc), k0_pay4⟩] := by
  frame_open
  simp (disch := decide) only [View.readAt_eq_ld, View.ld_unit_lit', read_cleared _ (show k0_off1 i = k0_off2 i from rfl), Memref.IsWhole.read_unread]
  try rfl

/-- The up halo stored in case A. -/
theorem upA (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runA c i arg2 harg2 arg3 harg3 arg4 harg4 arg5 harg5 arg6 harg6 arg7 harg7 arg8 harg8 arg9 harg9 arg10 harg10 arg11 harg11 hc x0 x1 x2 x3 x4 x5 x6 s0 s1).2.2.1 = [⟨row i, k0_pay12 (k0_pay3 x0 x2)⟩, ⟨Rect.unit (k0_off1 i) S1x8x512.size (k0_off1_inb i hc), k0_pay5⟩] := by
  frame_open
  simp (disch := decide) only [View.readAt_eq_ld, View.ld_unit_lit', read_cleared _ (show k0_off1 i = k0_off2 i from rfl), Memref.IsWhole.read_unread]
  try rfl

set_option maxHeartbeats 1000000 in
/-- The output block stored in case B. -/
theorem outB (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : ¬ k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runB c i arg2 harg2 arg3 harg3 arg4 harg4 arg5 harg5 arg6 harg6 arg7 harg7 arg8 harg8 arg9 harg9 arg10 harg10 arg11 harg11 hc x0 x1 x2 x3 x4 x5 x6 s0 s1).1 = [⟨Rect.unit ![0, 0] S1024x512.size inb_S1024x512_S1024x512_0_0, out x0 x1 x2 x3 x4 x5 x6 (View.ld s0 (row i)) (View.ld s1 (row i))⟩] := by
  frame_open
  simp (disch := decide) only [View.readAt_eq_ld, View.ld_unit_lit', read_cleared _ (show k0_off1 i = k0_off2 i from rfl), Memref.IsWhole.read_unread]
  rfl

/-- The gate halo stored in case B. -/
theorem gateB (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : ¬ k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runB c i arg2 harg2 arg3 harg3 arg4 harg4 arg5 harg5 arg6 harg6 arg7 harg7 arg8 harg8 arg9 harg9 arg10 harg10 arg11 harg11 hc x0 x1 x2 x3 x4 x5 x6 s0 s1).2.1 = [⟨row i, k0_pay11 (k0_pay2 x0 x1)⟩] := by
  frame_open
  simp (disch := decide) only [View.readAt_eq_ld, View.ld_unit_lit', read_cleared _ (show k0_off1 i = k0_off2 i from rfl), Memref.IsWhole.read_unread]
  try rfl

/-- The up halo stored in case B. -/
theorem upB (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (hc : ¬ k0_cond1 i = 1#1)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32)
    (s0 s1 : Vec F S11x8x512 .f32) :
    (runB c i arg2 harg2 arg3 harg3 arg4 harg4 arg5 harg5 arg6 harg6 arg7 harg7 arg8 harg8 arg9 harg9 arg10 harg10 arg11 harg11 hc x0 x1 x2 x3 x4 x5 x6 s0 s1).2.2.1 = [⟨row i, k0_pay12 (k0_pay3 x0 x2)⟩] := by
  frame_open
  simp (disch := decide) only [View.readAt_eq_ld, View.ld_unit_lit', read_cleared _ (show k0_off1 i = k0_off2 i from rfl), Memref.IsWhole.read_unread]
  try rfl

end Cert.UpIdeal.Body

end
-- ==== Proof.UpIdealFrame.lean ====
module

public import proofs.«01_k».proof.Proof.UpIdealRun
public import Idealize.ShloMosaic.Lib.VecWindow

/-! The up projection's frame by hand: the two halo buffers are carried from one grid point to the next, one row per
    column block, so a row read at a point was last written eleven points before. -/

@[expose] public section

set_option maxRecDepth 16384

noncomputable section

namespace Cert.UpIdeal.Body

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The halo rows at the grid points -/

/-- The column block of a point is its number modulo eleven. -/
theorem off_at (t : Fin cfg0.N) : k0_off2 (grid0.coords t) = ![t.val % 11, 0, 0] := by
  have e : (grid0.coords t 1).val = t.val / 1 % 11 := Pipeline.Grid.coords_val t 1 (by decide) rfl
  rw [k0_off2_eq, e, Nat.div_one]

set_option maxRecDepth 65536 in
/-- The halo rows are cleared at the points of an even row block. -/
theorem cond_at : ∀ t : Fin cfg0.N, k0_cond1 (grid0.coords t) = 1#1 ↔ t.val / 11 % 2 = 0 :=
  (by decide +kernel : ∀ t : Fin grid0.N, k0_cond1 (grid0.coords t) = 1#1 ↔ t.val / 11 % 2 = 0)

/-- Two points of one column block have the same halo rows. -/
theorem ld_row {t t' : Fin cfg0.N} (h : t.val % 11 = t'.val % 11) (s : Vec F S11x8x512 .f32) :
    View.ld s (row (grid0.coords t)) = View.ld s (row (grid0.coords t')) := by
  funext x
  refine congrArg s (funext fun a => Fin.ext ?_)
  show k0_off2 (grid0.coords t) a + 1 * (x a).val = k0_off2 (grid0.coords t') a + 1 * (x a).val
  rw [off_at, off_at, h]

/-- Points of different column blocks have disjoint halo rows. -/
theorem row_disjoint {t t' : Fin cfg0.N} (h : t.val % 11 ≠ t'.val % 11) (x : (row (grid0.coords t')).shape.Idx) :
    (row (grid0.coords t')).emb x ∉ (row (grid0.coords t)).set := by
  intro hm
  have h0 := (Rect.mem_set_unit.mp hm) 0
  have e : ((row (grid0.coords t')).emb x 0).val = k0_off2 (grid0.coords t') 0 + 1 * (x 0).val := rfl
  have hx : (x 0).val < 1 := (x 0).isLt
  rw [e, off_at, off_at] at h0
  simp only [Matrix.cons_val_zero] at h0
  have : S1x8x512.size 0 = 1 := rfl
  omega

/-- The contents of a halo buffer with the rows of one column block replaced. -/
abbrev put (i : grid0.Coords) (s : Vec F S11x8x512 .f32) (w : Vec F S1x8x512 .f32) : Vec F S11x8x512 .f32 := (row i).overlay s w

/-- A halo buffer after the body's last store, whatever it stored before into the same rows. -/
theorem read_put (i : grid0.Coords) (v : View sig .tc .vmem S11x8x512 .f32) (f : v.ty.Contents (Elt F)) (s : Vec F S11x8x512 .f32)
    (w : Vec F S1x8x512 .f32) (L : List (View.Piece (Elt F) S11x8x512 .f32))
    (h : ∀ y, y ∉ (row i).set → v.read (Elt F) (v.writes (Elt F) f L) y = s y) :
    v.read (Elt F) (v.writes (Elt F) f (⟨row i, w⟩ :: L)) = put i s w := by
  funext y
  by_cases hy : y ∈ (row i).set
  · obtain ⟨x, rfl⟩ := (row i).exists_idx_of_mem hy
    exact (View.read_writes_cons_emb v f (row i) w L x).trans ((row i).overlay_emb s w x).symm
  · exact (View.read_writes_cons_miss v f ⟨row i, w⟩ L y hy).trans ((h y hy).trans ((row i).overlay_of_not_mem s w hy).symm)

/-- The halo buffer after one store into it; -/
theorem read_put_one (i : grid0.Coords) (a : Memref sig .tc .vmem S11x8x512 .f32) (h : a.IsWhole) (s : Vec F S11x8x512 .f32) (w : Vec F S1x8x512 .f32) :
    a.view.read (Elt F) (a.view.writes (Elt F) (h.unread s) [⟨row i, w⟩]) = put i s w :=
  read_put i _ _ s w [] fun y _ => congrFun (h.read_unread s) y

/-- and after a clearing store and another. -/
theorem read_put_cleared (i : grid0.Coords) (a : Memref sig .tc .vmem S11x8x512 .f32) (h : a.IsWhole) (s : Vec F S11x8x512 .f32) (w z : Vec F S1x8x512 .f32)
    {hc : k0_cond1 i = 1#1} :
    a.view.read (Elt F) (a.view.writes (Elt F) (h.unread s) [⟨row i, w⟩, ⟨Rect.unit (k0_off1 i) S1x8x512.size (k0_off1_inb i hc), z⟩]) = put i s w :=
  read_put i _ _ s w _ fun y hy =>
    (View.read_writes_cons_miss a.view (h.unread s) ⟨Rect.unit (k0_off1 i) S1x8x512.size (k0_off1_inb i hc), z⟩ [] y hy).trans (congrFun (h.read_unread s) y)

/-- The output block after its one store. -/
theorem read_block (v : View sig .tc .vmem S1024x512 .bf16) (f : v.ty.Contents (Elt F)) (w : Vec F S1024x512 .bf16) :
    v.read (Elt F) (v.writes (Elt F) f [⟨Rect.unit ![0, 0] S1024x512.size inb_S1024x512_S1024x512_0_0, w⟩]) = w :=
  View.read_writes_full v f inb_S1024x512_S1024x512_0_0 w []

/-- A halo buffer before point `n`: the rows of each column block are what its last point left, `G`. -/
def Halo (G : Fin cfg0.N → Vec F S1x8x512 .f32) (n : ℕ) (s : Vec F S11x8x512 .f32) : Prop :=
  ∀ t : Fin cfg0.N, t.val < n → n ≤ t.val + 11 → View.ld s (row (grid0.coords t)) = G t

theorem Halo.zero (G : Fin cfg0.N → Vec F S1x8x512 .f32) (s : Vec F S11x8x512 .f32) : Halo G 0 s :=
  fun _ h _ => absurd h (Nat.not_lt_zero _)

/-- A point replaces its own rows and keeps the others. -/
theorem Halo.step {G : Fin cfg0.N → Vec F S1x8x512 .f32} {t : Fin cfg0.N} {s : Vec F S11x8x512 .f32} (h : Halo G t.val s) :
    Halo G (t.val + 1) (put (grid0.coords t) s (G t)) := by
  intro t' h1 h2
  rcases Nat.lt_or_eq_of_le (Nat.le_of_lt_succ h1) with hlt | heq
  · rw [← h t' hlt (by omega)]
    funext x
    exact (row (grid0.coords t)).overlay_of_not_mem s (G t) (row_disjoint (by omega) x)
  · obtain rfl : t' = t := Fin.ext heq
    funext x
    exact (row (grid0.coords t')).overlay_emb s (G t') x

/-- The point of the same column block in the row block before. -/
def prev (t : Fin cfg0.N) : Fin cfg0.N := ⟨t.val - 11, Nat.lt_of_le_of_lt (Nat.sub_le _ _) t.isLt⟩

/-- A point of an odd row block finds what the point of the row block before left. -/
theorem Halo.read {G : Fin cfg0.N → Vec F S1x8x512 .f32} {t : Fin cfg0.N} {s : Vec F S11x8x512 .f32} (h : Halo G t.val s)
    (ho : ¬ t.val / 11 % 2 = 0) : View.ld s (row (grid0.coords t)) = G (prev t) := by
  have h11 : 11 ≤ t.val := by omega
  have e : (prev t).val = t.val - 11 := rfl
  rw [← h (prev t) (by omega) (by omega)]
  exact ld_row (by omega) s

/-! ## The proof data -/

abbrev scG : Memref sig .tc .vmem S11x8x512 .f32 := Memref.whole cc0_scratch0
abbrev scU : Memref sig .tc .vmem S11x8x512 .f32 := Memref.whole cc0_scratch1

/-- The last eight rows of the gate product at a point, -/
def gateTail (c : Dev nD) (t : Fin cfg0.N) : Vec F S1x8x512 .f32 := k0_pay11 (k0_pay2 (iblk m c 0 t) (iblk m c 1 t))
/-- and of the up product. -/
def upTail (c : Dev nD) (t : Fin cfg0.N) : Vec F S1x8x512 .f32 := k0_pay12 (k0_pay3 (iblk m c 0 t) (iblk m c 2 t))

/-- The gate rows above a point's block: zero at the head of a sequence, else the tail of the block before; -/
def gateHead (c : Dev nD) (t : Fin cfg0.N) : Vec F S1x8x512 .f32 := if t.val / 11 % 2 = 0 then k0_pay4 else gateTail m c (prev t)
/-- and the up rows. -/
def upHead (c : Dev nD) (t : Fin cfg0.N) : Vec F S1x8x512 .f32 := if t.val / 11 % 2 = 0 then k0_pay5 else upTail m c (prev t)

/-- The block that point `t` writes. -/
def outAt (c : Dev nD) (t : Fin cfg0.N) : Vec F S1024x512 .bf16 :=
  out (iblk m c 0 t) (iblk m c 1 t) (iblk m c 2 t) (iblk m c 3 t) (iblk m c 4 t) (iblk m c 5 t) (iblk m c 6 t) (gateHead m c t) (upHead m c t)

/-- Before point `n`: the two halo buffers at contents that hold every column block's last tail, and the generator register. -/
def carried (c : Dev nD) (n : ℕ) : sProp 𝕄 :=
  iprop(((∃ s, ⌜Halo (gateTail m c) n s⌝ ∗ owns (c : Thread nD τ) scG fullShare s) ∗ (∃ s, ⌜Halo (upTail m c) n s⌝ ∗ owns (c : Thread nD τ) scU fullShare s)) ∗ (∃ r, prngReg c r))

/-- The class invariant with the halo buffers as memrefs owned at some contents. -/
theorem PhiA_eq (c : Dev nD) :
    (Pipeline.ΦA spec0 c : sProp 𝕄)
      = iprop(((∃ d, owns (c : Thread nD τ) scG fullShare d) ∗ (∃ d, owns (c : Thread nD τ) scU fullShare d)) ∗ (∃ r, prngReg c r)) := by
  unfold Pipeline.ΦA; rw [scopedRest0_eq]; simp only [scG, scU, owns_whole]; try rfl

/-- The pipeline's proof data: each input's buffer stays at its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/
section

variable (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S11x8x512 .f32) (harg10 : arg10.IsWhole)
    (arg11 : Memref sig .tc .vmem S11x8x512 .f32) (harg11 : arg11.IsWhole)
    (x0 : Vec F S1024x2048 .bf16) (x1 x2 : Vec F S2048x512 .bf16) (x3 x4 : Vec F S3x512 .f32) (x5 x6 : Vec F S1x512 .f32) (s0 s1 : Vec F S11x8x512 .f32)

/-- The body at the head of a sequence: the rows above the block are zero. -/
theorem stepA (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (out x0 x1 x2 x3 x4 x5 x6 k0_pay4 k0_pay5)
          ∗ owns (c : Thread nD τ) arg10 fullShare (put i s0 (k0_pay11 (k0_pay2 x0 x1)))
          ∗ owns (c : Thread nD τ) arg11 fullShare (put i s1 (k0_pay12 (k0_pay3 x0 x2)))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  have e7 := outA c i arg2 harg2 arg3 harg3 arg4 harg4 arg5 harg5 arg6 harg6 arg7 harg7 arg8 harg8 arg9 harg9 arg10 harg10 arg11 harg11 hc x0 x1 x2 x3 x4 x5 x6 s0 s1
  have e0 := gateA c i arg2 harg2 arg3 harg3 arg4 harg4 arg5 harg5 arg6 harg6 arg7 harg7 arg8 harg8 arg9 harg9 arg10 harg10 arg11 harg11 hc x0 x1 x2 x3 x4 x5 x6 s0 s1
  have e1 := upA c i arg2 harg2 arg3 harg3 arg4 harg4 arg5 harg5 arg6 harg6 arg7 harg7 arg8 harg8 arg9 harg9 arg10 harg10 arg11 harg11 hc x0 x1 x2 x3 x4 x5 x6 s0 s1
  revert e7 e0 e1
  generalize runA c i arg2 harg2 arg3 harg3 arg4 harg4 arg5 harg5 arg6 harg6 arg7 harg7 arg8 harg8 arg9 harg9 arg10 harg10 arg11 harg11 hc x0 x1 x2 x3 x4 x5 x6 s0 s1 = r
  obtain ⟨L7, LS0, LS1, h⟩ := r
  intro e7 e0 e1
  dsimp only at e7 e0 e1 h
  subst e7 e0 e1
  iintro ⟨H0, H1, H2, H3, H4, H5, H6, H7, HS0, HS1, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read_block _ _ _
  isplitl [HS0]
  · unfold owns; iexists _; isplitr
    swap; · iexact HS0
    ipureintro; exact read_put_cleared i arg10 harg10 s0 _ _ (hc := hc)
  · unfold owns; iexists _; isplitr
    swap; · iexact HS1
    ipureintro; exact read_put_cleared i arg11 harg11 s1 _ _ (hc := hc)

/-- The body at the later block of a sequence: the rows above the block are the carried ones. -/
theorem stepB (hc : ¬ k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (out x0 x1 x2 x3 x4 x5 x6 (View.ld s0 (row i)) (View.ld s1 (row i)))
          ∗ owns (c : Thread nD τ) arg10 fullShare (put i s0 (k0_pay11 (k0_pay2 x0 x1)))
          ∗ owns (c : Thread nD τ) arg11 fullShare (put i s1 (k0_pay12 (k0_pay3 x0 x2)))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  have e7 := outB c i arg2 harg2 arg3 harg3 arg4 harg4 arg5 harg5 arg6 harg6 arg7 harg7 arg8 harg8 arg9 harg9 arg10 harg10 arg11 harg11 hc x0 x1 x2 x3 x4 x5 x6 s0 s1
  have e0 := gateB c i arg2 harg2 arg3 harg3 arg4 harg4 arg5 harg5 arg6 harg6 arg7 harg7 arg8 harg8 arg9 harg9 arg10 harg10 arg11 harg11 hc x0 x1 x2 x3 x4 x5 x6 s0 s1
  have e1 := upB c i arg2 harg2 arg3 harg3 arg4 harg4 arg5 harg5 arg6 harg6 arg7 harg7 arg8 harg8 arg9 harg9 arg10 harg10 arg11 harg11 hc x0 x1 x2 x3 x4 x5 x6 s0 s1
  revert e7 e0 e1
  generalize runB c i arg2 harg2 arg3 harg3 arg4 harg4 arg5 harg5 arg6 harg6 arg7 harg7 arg8 harg8 arg9 harg9 arg10 harg10 arg11 harg11 hc x0 x1 x2 x3 x4 x5 x6 s0 s1 = r
  obtain ⟨L7, LS0, LS1, h⟩ := r
  intro e7 e0 e1
  dsimp only at e7 e0 e1 h
  subst e7 e0 e1
  iintro ⟨H0, H1, H2, H3, H4, H5, H6, H7, HS0, HS1, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read_block _ _ _
  isplitl [HS0]
  · unfold owns; iexists _; isplitr
    swap; · iexact HS0
    ipureintro; exact read_put_one i arg10 harg10 s0 _
  · unfold owns; iexists _; isplitr
    swap; · iexact HS1
    ipureintro; exact read_put_one i arg11 harg11 s1 _

end

abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .bf16 := win0_7.stage (cfg0.slots t 7)
abbrev hs7 (t : Fin cfg0.N) : (ms7 t).IsWhole := hstage0_7 ((cfg0.slots t 7).cast nbuf0_7)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point, from the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.castSucc = carried m c t.val from rfl, show (dats m 0 c).Φ t.succ = carried m c (t.val + 1) from rfl,
    after0_0, after0_1, after0_2, after0_3, after0_4, after0_5, after0_6, after0_7]
  unfold carried
  by_cases h0 : t.val / 11 % 2 = 0
  · iintro ⟨⟨⟨⟨%s0, %I0, HS0⟩, ⟨%s1, %I1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stepA c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) s0 s1 ((cond_at t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexists _; isplitr; · ipureintro; exact I0.step
          iexact HS0
        · iexists _; isplitr; · ipureintro; exact I1.step
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [outAt, gateHead, upHead, if_pos h0, if_pos h0]
    iexact H7
  · iintro ⟨⟨⟨⟨%s0, %I0, HS0⟩, ⟨%s1, %I1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stepB c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) s0 s1 (fun h => h0 ((cond_at t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexists _; isplitr; · ipureintro; exact I0.step
          iexact HS0
        · iexists _; isplitr; · ipureintro; exact I1.step
          iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [outAt, gateHead, upHead, if_neg h0, if_neg h0, ← I0.read h0, ← I1.read h0]
    iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the halo buffers. -/
theorem hin (c : Dev nD) : Pipeline.ΦA spec0 c ⊢ (dats m 0 c).Φ 0 := by
  rw [show (dats m 0 c).Φ 0 = carried m c 0 from rfl, PhiA_eq]
  unfold carried
  iintro ⟨⟨⟨%s0, HS0⟩, ⟨%s1, HS1⟩⟩, Hg⟩
  isplitl [HS0 HS1]
  · isplitl [HS0]
    · iexists _; isplitr; · ipureintro; exact Halo.zero _ s0
      iexact HS0
    · iexists _; isplitr; · ipureintro; exact Halo.zero _ s1
      iexact HS1
  iexact Hg

/-- After the last point the halo buffers are given back. -/
theorem hout (c : Dev nD) : (dats m 0 c).Φ (Fin.last cfg0.N) ⊢ Pipeline.ΦA spec0 c := by
  rw [show (dats m 0 c).Φ (Fin.last cfg0.N) = carried m c cfg0.N from rfl, PhiA_eq]
  unfold carried
  iintro ⟨⟨⟨%s0, %I0, HS0⟩, ⟨%s1, %I1, HS1⟩⟩, Hg⟩
  isplitl [HS0 HS1]
  · isplitl [HS0]
    · iexists _; iexact HS0
    · iexists _; iexact HS1
  iexact Hg

/-! ## The run and the frame -/

set_option backward.isDefEq.respectTransparency.types false in
/-- Every execution ends, with the arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.UpIdeal.Body

end
-- ==== Proof.UpValue.lean ====
/- The up projection with its causal convolution and gate: the array the kernel leaves is the reference's. -/
module

public import proofs.«01_k».proof.Proof.UpIdealFrame
public import proofs.«01_k».proof.Proof.Gen.UpRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpRefIdeal.Value

open Cert.UpRefIdeal Cert.UpRefIdeal.Gen

/-- The product of the normalised hidden rows with the weight, two zero rows before each sequence. -/
def PADDED (hn : FVec Ideal S16384x2048 .bf16) (w : FVec Ideal S2048x11264 .f32) : FVec Ideal S8x2050x11264 .f32 :=
  pad S8x2050x11264 ![0, 2, 0] ![0, 0, 0] ![0, 0, 0] (shapeCast S8x2048x11264 (Host.dotGeneral dot_S16384x2048_S2048x11264_S16384x11264_1_0_0_1_n_n none (extf .f32 hn bitsLt_bf16_f32) w) shapeCasts_S16384x11264_S8x2048x11264) (sitofp .f32 (constantI S_ 32 0#32)) pads_S8x2048x11264_S8x2050x11264_000_200_000 h_S_

/-- The convolution along the sequence: the bias and three weighted shifts. -/
def CONV (hn : FVec Ideal S16384x2048 .bf16) (w : FVec Ideal S2048x11264 .f32) (cw : FVec Ideal S3x11264 .f32) (cb : FVec Ideal S1x11264 .f32) : FVec Ideal S8x2048x11264 .f32 :=
  addf (addf (addf (broadcastInDim S8x2048x11264 ![0, 1, 2] bcast_S1x1x11264_S8x2048x11264_0_1_2 (broadcastInDim S1x1x11264 ![1, 2] bcast_S1x11264_S1x1x11264_1_2 cb)) (mulf (broadcastInDim S8x2048x11264 ![0, 1, 2] bcast_S1x1x11264_S8x2048x11264_0_1_2 (broadcastInDim S1x1x11264 ![2] bcast_S11264_S1x1x11264_2 (shapeCast S11264 (extractStridedSlice S1x11264 ![0, 0] cw slices_S3x11264_S1x11264_0_0) shapeCasts_S1x11264_S11264))) (extractStridedSlice S8x2048x11264 ![0, 0, 0] (PADDED hn w) slices_S8x2050x11264_S8x2048x11264_0_0_0))) (mulf (broadcastInDim S8x2048x11264 ![0, 1, 2] bcast_S1x1x11264_S8x2048x11264_0_1_2 (broadcastInDim S1x1x11264 ![2] bcast_S11264_S1x1x11264_2 (shapeCast S11264 (extractStridedSlice S1x11264 ![1, 0] cw slices_S3x11264_S1x11264_1_0) shapeCasts_S1x11264_S11264))) (extractStridedSlice S8x2048x11264 ![0, 1, 0] (PADDED hn w) slices_S8x2050x11264_S8x2048x11264_0_1_0))) (mulf (broadcastInDim S8x2048x11264 ![0, 1, 2] bcast_S1x1x11264_S8x2048x11264_0_1_2 (broadcastInDim S1x1x11264 ![2] bcast_S11264_S1x1x11264_2 (shapeCast S11264 (extractStridedSlice S1x11264 ![2, 0] cw slices_S3x11264_S1x11264_2_0) shapeCasts_S1x11264_S11264))) (extractStridedSlice S8x2048x11264 ![0, 2, 0] (PADDED hn w) slices_S8x2050x11264_S8x2048x11264_0_2_0))

/-- What the reference computes of its arguments: the first half of the columns gates the second. -/
def REF (hn : FVec Ideal S16384x2048 .bf16) (w : FVec Ideal S2048x11264 .f32) (cw : FVec Ideal S3x11264 .f32) (cb : FVec Ideal S1x11264 .f32) : FVec Ideal S16384x5632 .bf16 :=
  truncf .bf16 (shapeCast S16384x5632 (mulf (mulf (extractStridedSlice S8x2048x5632 ![0, 0, 0] (CONV hn w cw cb) slices_S8x2048x11264_S8x2048x5632_0_0_0) (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf (extractStridedSlice S8x2048x5632 ![0, 0, 0] (CONV hn w cw cb) slices_S8x2048x11264_S8x2048x5632_0_0_0)))))) (extractStridedSlice S8x2048x5632 ![0, 0, 5632] (CONV hn w cw cb) slices_S8x2048x11264_S8x2048x5632_0_0_5632)) shapeCasts_S8x2048x5632_S16384x5632) bitsLt_bf16_f32

/-- The reference's run, its result in these words. -/
theorem res_eq (m : (ℓ : Loc nD τ sig) → Buf (Elt Ideal) ℓ) (c : Dev nD) : res_main_v32 m c
    = REF (m ((c.tc : Thread nD τ).loc main_arg0)) (m ((c.tc : Thread nD τ).loc main_arg1)) (m ((c.tc : Thread nD τ).loc main_arg2)) (m ((c.tc : Thread nD τ).loc main_arg3)) := rfl

/-- One element of the product. -/
def dot (hn : FVec Ideal S16384x2048 .bf16) (w : FVec Ideal S2048x11264 .f32) (r : Fin 16384) (n : Fin 11264) : EReal :=
  ∑ k : Fin 2048, hn (ix2 r k) * w (ix2 k n)

/-- The product's element `d` rows up in the sequence, zero before its first row. -/
def shift (hn : FVec Ideal S16384x2048 .bf16) (w : FVec Ideal S2048x11264 .f32) (d : ℕ) (r : Fin 16384) (n : Fin 11264) : EReal :=
  if r.val % 2048 < d then 0 else dot hn w ⟨r.val - d, by omega⟩ n

/-- One element of the convolution. -/
def conv (hn : FVec Ideal S16384x2048 .bf16) (w : FVec Ideal S2048x11264 .f32) (cw : FVec Ideal S3x11264 .f32) (cb : FVec Ideal S1x11264 .f32) (r : Fin 16384) (n : Fin 11264) : EReal :=
  cb (ix2 0 n) + cw (ix2 0 n) * shift hn w 2 r n + cw (ix2 1 n) * shift hn w 1 r n + cw (ix2 2 n) * shift hn w 0 r n

/-- The gate: `x · σ(x)` of one value times another. -/
def gated (x y : EReal) : EReal := x * Ideal.div 1 (1 + Ideal.exp (-x)) * y

/-- The padded product's element, whatever the shift that reads it. -/
theorem padded_at (hn : FVec Ideal S16384x2048 .bf16) (w : FVec Ideal S2048x11264 .f32) (r : Fin 16384) (n : Fin 11264) (d : ℕ) (hd : d ≤ 2) :
    PADDED hn w (ix3 ⟨r.val / 2048, by omega⟩ ⟨2 - d + r.val % 2048, by omega⟩ n) = shift hn w d r n := by
  have hs : FloatOps.sitofp (F := Ideal) FTy.f32 (0#32) = 0 := by
    show (((0#32 : BitVec 32).toInt : ℝ) : EReal) = 0
    simp
  pointwise [PADDED]
  rw [hs]
  unfold shift dot
  by_cases h : r.val % 2048 < d
  · rw [if_pos h, dif_neg (by omega)]
  · rw [if_neg h, dif_pos (by omega)]
    have e : r.val / 2048 * 2048 + (2 - d + r.val % 2048 - 2) = r.val - d := by omega
    simp only [e]

/-- The reference's convolution at an element. -/
theorem conv_at (hn : FVec Ideal S16384x2048 .bf16) (w : FVec Ideal S2048x11264 .f32) (cw : FVec Ideal S3x11264 .f32) (cb : FVec Ideal S1x11264 .f32) (r : Fin 16384) (n : Fin 11264) :
    CONV hn w cw cb (ix3 ⟨r.val / 2048, by omega⟩ ⟨r.val % 2048, by omega⟩ n) = conv hn w cw cb r n := by
  unfold conv
  rw [← padded_at hn w r n 2 (by omega), ← padded_at hn w r n 1 (by omega), ← padded_at hn w r n 0 (by omega)]
  unfold CONV
  generalize PADDED hn w = P
  pointwise []

/-- The reference at an element. -/
theorem ref_at (hn : FVec Ideal S16384x2048 .bf16) (w : FVec Ideal S2048x11264 .f32) (cw : FVec Ideal S3x11264 .f32) (cb : FVec Ideal S1x11264 .f32) (r : Fin 16384) (n : Fin 5632) :
    REF hn w cw cb (ix2 r n) = gated (conv hn w cw cb r ⟨n.val, by omega⟩) (conv hn w cw cb r ⟨5632 + n.val, by omega⟩) := by
  rw [← conv_at, ← conv_at]
  unfold REF
  generalize CONV hn w cw cb = P
  pointwise [gated]

end Cert.UpRefIdeal.Value

namespace Cert.UpIdeal.Value

open Cert.UpIdeal Cert.UpIdeal.Gen Cert.UpIdeal.Body Cert.UpRefIdeal.Value

/-- A block's product `d` rows up, the carried rows above it. -/
def up (P : FVec Ideal S1024x512 .f32) (g : Vec Ideal S1x8x512 .f32) (d : ℕ) (r : Fin 1024) (n : Fin 512) : EReal :=
  if h : 8 - d + r.val < 8 then g (ix3 0 ⟨8 - d + r.val, h⟩ n) else P (ix2 ⟨8 - d + r.val - 8, by omega⟩ n)

/-- One element of a block's convolution. -/
def convB (P : FVec Ideal S1024x512 .f32) (g : Vec Ideal S1x8x512 .f32) (cw : Vec Ideal S3x512 .f32) (cb : Vec Ideal S1x512 .f32) (r : Fin 1024) (n : Fin 512) : EReal :=
  cb (ix2 0 n) + cw (ix2 0 n) * up P g 2 r n + cw (ix2 1 n) * up P g 1 r n + cw (ix2 2 n) * P (ix2 r n)

/-- The block a point writes, at an element. -/
theorem out_at (x0 : Vec Ideal S1024x2048 .bf16) (x1 x2 : Vec Ideal S2048x512 .bf16) (x3 x4 : Vec Ideal S3x512 .f32) (x5 x6 : Vec Ideal S1x512 .f32)
    (g u : Vec Ideal S1x8x512 .f32) (r : Fin 1024) (n : Fin 512) : out (F := Ideal) x0 x1 x2 x3 x4 x5 x6 g u (ix2 r n)
      = gated (convB (k0_pay2 x0 x1) g x3 x5 r n) (convB (k0_pay3 x0 x2) u x4 x6 r n) := by
  unfold out k0_pay7 k0_pay8 k0_pay6
  generalize k0_pay2 x0 x1 = P
  generalize k0_pay3 x0 x2 = Q
  pointwise [k0_pay1, k0_pay10, k0_pay13, k0_pay9, gated, convB, up]
  simp only [zero_sub, Nat.reduceSub]

/-- Where each window's block sits at grid point `t`. -/
theorem idx : ∀ t : Fin cfg0.N, win0_0.index t = ![t.val / 11, 0] ∧ win0_1.index t = ![0, t.val % 11] ∧ win0_2.index t = ![0, 11 + t.val % 11]
    ∧ win0_3.index t = ![0, t.val % 11] ∧ win0_4.index t = ![0, 11 + t.val % 11] ∧ win0_5.index t = ![0, t.val % 11] ∧ win0_6.index t = ![0, 11 + t.val % 11]
    ∧ win0_7.index t = ![t.val / 11, t.val % 11] :=
  (by decide +kernel : ∀ t : Fin grid0.N, _)

variable (m : (ℓ : Loc nD τ sig) → Buf (Elt Ideal) ℓ)

/-- The gate product's element of a block is the whole product's, -/
theorem gate_at (c : Dev nD) (t : Fin cfg0.N) (r : Fin 1024) (n : Fin 512) (R : Fin 16384) (M : Fin 11264) (hR : R.val = t.val / 11 * 1024 + r.val)
    (hM : M.val = 0 + t.val % 11 * 512 + n.val) : k0_pay2 (F := Ideal) (iblk m c 0 t) (iblk m c 1 t) (ix2 r n)
    = dot (m ((c : Thread nD τ).loc main_arg0)) (m ((c : Thread nD τ).loc main_arg1)) R M := by
  pointwise [k0_pay2, dot]
  blk_point [iblk, V, idx t]

/-- and the up product's, whose columns are the second half. -/
theorem lin_at (c : Dev nD) (t : Fin cfg0.N) (r : Fin 1024) (n : Fin 512) (R : Fin 16384) (M : Fin 11264) (hR : R.val = t.val / 11 * 1024 + r.val)
    (hM : M.val = 5632 + t.val % 11 * 512 + n.val) : k0_pay3 (F := Ideal) (iblk m c 0 t) (iblk m c 2 t) (ix2 r n)
    = dot (m ((c : Thread nD τ).loc main_arg0)) (m ((c : Thread nD τ).loc main_arg1)) R M := by
  pointwise [k0_pay3, dot]
  blk_point [iblk, V, idx t]

/-- The rows kept of a block's product are its last eight. -/
theorem tail_at (P : FVec Ideal S1024x512 .f32) (a : Fin 8) (n : Fin 512) : k0_pay11 P (ix3 0 a n) = P (ix2 ⟨1016 + a.val, by omega⟩ n) := by
  pointwise [k0_pay11]

/-- The rows at a sequence's head are zero. -/
theorem zero_at (a : Fin 8) (n : Fin 512) : k0_pay4 (F := Ideal) (ix3 0 a n) = 0 := by
  pointwise [k0_pay4]

/-- A block's product with the carried rows above it is the whole product shifted within its sequence. -/
theorem up_at {hn : FVec Ideal S16384x2048 .bf16} {w : FVec Ideal S2048x11264 .f32} {B : Fin cfg0.N → FVec Ideal S1024x512 .f32} {o : ℕ}
    (hB : ∀ (t : Fin cfg0.N) (r : Fin 1024) (n : Fin 512) (R : Fin 16384) (M : Fin 11264), R.val = t.val / 11 * 1024 + r.val →
      M.val = o + t.val % 11 * 512 + n.val → B t (ix2 r n) = dot hn w R M)
    (t : Fin cfg0.N) (r : Fin 1024) (n : Fin 512) (R : Fin 16384) (M : Fin 11264) (hR : R.val = t.val / 11 * 1024 + r.val)
    (hM : M.val = o + t.val % 11 * 512 + n.val) (d : ℕ) (hd : d ≤ 2) :
    up (B t) (if t.val / 11 % 2 = 0 then k0_pay4 (F := Ideal) else k0_pay11 (B (prev t))) d r n = shift hn w d R M := by
  have hr := r.isLt
  unfold up shift
  by_cases h : 8 - d + r.val < 8
  · rw [dif_pos h]
    by_cases h0 : t.val / 11 % 2 = 0
    · rw [if_pos h0, if_pos (by omega), zero_at]
    · rw [if_neg h0, if_neg (by omega), tail_at]
      have ep : (prev t).val = t.val - 11 := rfl
      exact hB (prev t) _ n _ M (by simp only [ep]; omega) (by rw [ep]; omega)
  · rw [dif_neg h, if_neg (by omega)]
    exact hB t _ n _ M (by simp only []; omega) hM

/-- A block's convolution is the whole convolution there. -/
theorem convB_at {hn : FVec Ideal S16384x2048 .bf16} {w : FVec Ideal S2048x11264 .f32} {B : Fin cfg0.N → FVec Ideal S1024x512 .f32} {o : ℕ}
    (hB : ∀ (t : Fin cfg0.N) (r : Fin 1024) (n : Fin 512) (R : Fin 16384) (M : Fin 11264), R.val = t.val / 11 * 1024 + r.val →
      M.val = o + t.val % 11 * 512 + n.val → B t (ix2 r n) = dot hn w R M)
    (t : Fin cfg0.N) (r : Fin 1024) (n : Fin 512) (R : Fin 16384) (M : Fin 11264) (hR : R.val = t.val / 11 * 1024 + r.val)
    (hM : M.val = o + t.val % 11 * 512 + n.val) {cw : FVec Ideal S3x11264 .f32} {cb : FVec Ideal S1x11264 .f32} {cw' : Vec Ideal S3x512 .f32} {cb' : Vec Ideal S1x512 .f32}
    (hw : ∀ k, cw' (ix2 k n) = cw (ix2 k M)) (hb : cb' (ix2 0 n) = cb (ix2 0 M)) :
    convB (B t) (if t.val / 11 % 2 = 0 then k0_pay4 (F := Ideal) else k0_pay11 (B (prev t))) cw' cb' r n = conv hn w cw cb R M := by
  unfold convB conv
  rw [up_at hB t r n R M hR hM 2 (by omega), up_at hB t r n R M hR hM 1 (by omega), hw, hw, hw, hb, hB t r n R M hR hM]
  rfl

/-- One element of the block stored at point `t` is the reference's element there. -/
theorem point (c : Dev nD) (t : Fin cfg0.N) (r : Fin 1024) (n : Fin 512) (R : Fin 16384) (M : Fin 5632) (hR : R.val = t.val / 11 * 1024 + r.val)
    (hM : M.val = t.val % 11 * 512 + n.val) : outAt m c t (ix2 r n)
    = REF (m ((c : Thread nD τ).loc main_arg0)) (m ((c : Thread nD τ).loc main_arg1)) (m ((c : Thread nD τ).loc main_arg2)) (m ((c : Thread nD τ).loc main_arg3)) (ix2 R M) := by
  rw [ref_at, outAt, out_at]
  congr 1
  · refine convB_at (o := 0) (gate_at m c) t r n R _ hR (by simp only []; omega) (fun k => ?_) ?_
    · blk_point [iblk, V, idx t]
    · blk_point [iblk, V, idx t]
  · refine convB_at (o := 5632) (lin_at m c) t r n R _ hR (by simp only []; omega) (fun k => ?_) ?_
    · blk_point [iblk, V, idx t]
    · blk_point [iblk, V, idx t]

/-- The result array after the run. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  have h0 : ((win0_7.blk t).view.emb y 0).val = t.val / 11 * 1024 + (y 0).val := by blk_simp [idx t]
  have h1 : ((win0_7.blk t).view.emb y 1).val = t.val % 11 * 512 + (y 1).val := by blk_simp [idx t]
  exact (congrArg (outAt m c t) (eq_ix2 (n0 := 1024) (n1 := 512) y)).trans
    ((point m c t _ _ _ _ h0 h1).trans (congrArg (REF _ _ _ _) (eq_ix2 (n0 := 16384) (n1 := 5632) _).symm))

end Cert.UpIdeal.Value

end
-- ==== Proof.InprojIdealRun.lean ====
module

public import proofs.«01_k».proof.Proof.Gen.InprojIdeal.Frame
public import proofs.«01_k».proof.Proof.Gen.InprojIdeal.Skeleton
public import Idealize.ShloMosaic.Lib.Pipeline.ReadBack
public import Idealize.ShloMosaic.Lib.Pipeline.ValueKit

/-! The body of the input projection at one grid point, as a run: what it leaves in the block of heads, in the block of
    gate products and in the carried buffer of normalised rows. Two cases: the first column block of a row block, which
    normalises the rows and multiplies them by the gates' matrix, and a later one, which reads the normalised rows. -/

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run of the body at the first column block: the pieces it stores in the block of heads, in the block of gate products and in the
    carried buffer, and that it runs to them. -/
noncomputable def runA (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : k0_cond1 i = 1#1)
    (x0 : Vec F S1024x2048 .f32) (x1 : Vec F S1x2048 .f32) (x2 : Vec F S2048x1024 .bf16) (x3 : Vec F S2048x128 .bf16) (s : Vec F S1024x2048 .bf16) :
    Σ' (L4 : List (View.Piece (Elt F) S8x1024x128 .bf16)) (L5 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, (arg6.view.loc (c : Thread nD τ) ↦[arg6.view.set]{fullShare} arg6.view.writes (Elt F) f L4))
              ∗ (∃ f, (arg7.view.loc (c : Thread nD τ) ↦[arg7.view.set]{fullShare} arg7.view.writes (Elt F) f L5))
              ∗ (arg8.view.loc (c : Thread nD τ) ↦[arg8.view.set]{fullShare} arg8.view.writes (Elt F) (harg8.unread s) LS)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, ?_, ?_, fun E K => ?run⟩
  case run =>
    simp only [cc0_inproj_eq_skeleton]; unfold cc0_inproj_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact HS

set_option maxHeartbeats 1000000 in
/-- The run of the body at a later column block: the pieces it stores in the block of heads, and that it runs to them. -/
noncomputable def runB (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : ¬ k0_cond1 i = 1#1)
    (x0 : Vec F S1024x2048 .f32) (x1 : Vec F S1x2048 .f32) (x2 : Vec F S2048x1024 .bf16) (x3 : Vec F S2048x128 .bf16) (s : Vec F S1024x2048 .bf16) :
    { L4 : List (View.Piece (Elt F) S8x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, (arg6.view.loc (c : Thread nD τ) ↦[arg6.view.set]{fullShare} arg6.view.writes (Elt F) f L4))
              ∗ owns (c : Thread nD τ) arg8 fullShare s) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    simp only [cc0_inproj_eq_skeleton]; unfold cc0_inproj_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg8.read_unread _
    iexact HS

/-- The eight heads of a column block, the last first: from the normalised rows and the block of the weights. -/
def heads (s : Vec F S1024x2048 .bf16) (w : Vec F S2048x1024 .bf16) : List (View.Piece (Elt F) S8x1024x128 .bf16) :=
  [⟨Rect.unit (s := S8x1024x128) ![7, 0, 0] S1x1024x128.size inb_S8x1024x128_S1x1024x128_7_0_0, k0_pay4 (k0_pay8 s w)⟩,
    ⟨Rect.unit (s := S8x1024x128) ![6, 0, 0] S1x1024x128.size inb_S8x1024x128_S1x1024x128_6_0_0, k0_pay3 (k0_pay8 s w)⟩,
    ⟨Rect.unit (s := S8x1024x128) ![5, 0, 0] S1x1024x128.size inb_S8x1024x128_S1x1024x128_5_0_0, k0_pay2 (k0_pay8 s w)⟩,
    ⟨Rect.unit (s := S8x1024x128) ![4, 0, 0] S1x1024x128.size inb_S8x1024x128_S1x1024x128_4_0_0, k0_pay1 (k0_pay13 s w)⟩,
    ⟨Rect.unit (s := S8x1024x128) ![3, 0, 0] S1x1024x128.size inb_S8x1024x128_S1x1024x128_3_0_0, k0_pay12 s w⟩,
    ⟨Rect.unit (s := S8x1024x128) ![2, 0, 0] S1x1024x128.size inb_S8x1024x128_S1x1024x128_2_0_0, k0_pay11 s w⟩,
    ⟨Rect.unit (s := S8x1024x128) ![1, 0, 0] S1x1024x128.size inb_S8x1024x128_S1x1024x128_1_0_0, k0_pay10 s w⟩,
    ⟨Rect.unit (s := S8x1024x128) ![0, 0, 0] S1x1024x128.size inb_S8x1024x128_S1x1024x128_0_0_0, k0_pay9 s w⟩]

set_option maxHeartbeats 1000000 in
/-- The heads stored at a first column block. -/
theorem headsA (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : k0_cond1 i = 1#1)
    (x0 : Vec F S1024x2048 .f32) (x1 : Vec F S1x2048 .f32) (x2 : Vec F S2048x1024 .bf16) (x3 : Vec F S2048x128 .bf16) (s : Vec F S1024x2048 .bf16) :
    (runA c i arg2 harg2 arg3 harg3 arg4 harg4 arg5 harg5 arg6 harg6 arg7 harg7 arg8 harg8 hc x0 x1 x2 x3 s).1 = heads (k0_pay6 x0 x1) x2 := by
  frame_open
  simp (disch := decide) only [↓ View.readCov_skip, ↓ View.readCov_cons_toLoadRect, View.readAt_eq_ld, View.ld_unit_lit', Memref.IsWhole.read_unread]
  try rfl

set_option maxHeartbeats 1000000 in
/-- The gate products stored at a first column block. -/
theorem gatesA (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : k0_cond1 i = 1#1)
    (x0 : Vec F S1024x2048 .f32) (x1 : Vec F S1x2048 .f32) (x2 : Vec F S2048x1024 .bf16) (x3 : Vec F S2048x128 .bf16) (s : Vec F S1024x2048 .bf16) :
    (runA c i arg2 harg2 arg3 harg3 arg4 harg4 arg5 harg5 arg6 harg6 arg7 harg7 arg8 harg8 hc x0 x1 x2 x3 s).2.1 = [⟨Rect.unit ![0, 0] S1024x128.size inb_S1024x128_S1024x128_0_0, k0_pay7 x0 x1 x3⟩] := by
  frame_open
  simp (disch := decide) only [↓ View.readCov_skip, ↓ View.readCov_cons_toLoadRect, View.readAt_eq_ld, View.ld_unit_lit', Memref.IsWhole.read_unread]
  try rfl

set_option maxHeartbeats 1000000 in
/-- The normalised rows stored at a first column block. -/
theorem rowsA (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : k0_cond1 i = 1#1)
    (x0 : Vec F S1024x2048 .f32) (x1 : Vec F S1x2048 .f32) (x2 : Vec F S2048x1024 .bf16) (x3 : Vec F S2048x128 .bf16) (s : Vec F S1024x2048 .bf16) :
    (runA c i arg2 harg2 arg3 harg3 arg4 harg4 arg5 harg5 arg6 harg6 arg7 harg7 arg8 harg8 hc x0 x1 x2 x3 s).2.2.1 = [⟨Rect.unit ![0, 0] S1024x2048.size inb_S1024x2048_S1024x2048_0_0, k0_pay6 x0 x1⟩] := by
  frame_open
  simp (disch := decide) only [↓ View.readCov_skip, ↓ View.readCov_cons_toLoadRect, View.readAt_eq_ld, View.ld_unit_lit', Memref.IsWhole.read_unread]
  try rfl

set_option maxHeartbeats 1000000 in
/-- The heads stored at a later column block. -/
theorem headsB (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (hc : ¬ k0_cond1 i = 1#1)
    (x0 : Vec F S1024x2048 .f32) (x1 : Vec F S1x2048 .f32) (x2 : Vec F S2048x1024 .bf16) (x3 : Vec F S2048x128 .bf16) (s : Vec F S1024x2048 .bf16) :
    (runB c i arg2 harg2 arg3 harg3 arg4 harg4 arg5 harg5 arg6 harg6 arg7 harg7 arg8 harg8 hc x0 x1 x2 x3 s).1 = heads s x2 := by
  frame_open
  simp (disch := decide) only [↓ View.readCov_skip, ↓ View.readCov_cons_toLoadRect, View.readAt_eq_ld, View.ld_unit_lit', Memref.IsWhole.read_unread]
  try rfl

end Cert.InprojIdeal.Body

end
-- ==== Proof.InprojIdealFrame.lean ====
module

public import proofs.«01_k».proof.Proof.InprojIdealRun
public import Idealize.ShloMosaic.Lib.VecWindow

/-! The input projection's frame by hand: the normalised rows of a row block are computed at its first column block and
    carried to the five others; the gates' product is stored there too and written back five points later. -/

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

set_option maxRecDepth 65536 in
/-- The rows are normalised at the first column block of each row block. -/
theorem cond_at : ∀ t : Fin cfg0.N, k0_cond1 (grid0.coords t) = 1#1 ↔ t.val % 6 = 0 :=
  (by decide +kernel : ∀ t : Fin grid0.N, k0_cond1 (grid0.coords t) = 1#1 ↔ t.val % 6 = 0)

/-- The first column block's point of a point's row block. -/
def head (t : Fin cfg0.N) : Fin cfg0.N := ⟨t.val / 6 * 6, Nat.lt_of_le_of_lt (Nat.div_mul_le_self _ _) t.isLt⟩

theorem head_first {t : Fin cfg0.N} (h : t.val % 6 = 0) : head t = t := Fin.ext (by show t.val / 6 * 6 = t.val; omega)

/-- The point before. -/
def prev (t : Fin cfg0.N) : Fin cfg0.N := ⟨t.val - 1, Nat.lt_of_le_of_lt (Nat.sub_le _ _) t.isLt⟩

theorem head_prev {t : Fin cfg0.N} (h : ¬ t.val % 6 = 0) : head (prev t) = head t :=
  Fin.ext (by show (t.val - 1) / 6 * 6 = t.val / 6 * 6; omega)

/-! ## What the stores leave -/

/-- The block of heads, from the normalised rows and the block of the weights. -/
def headsOut (s : Vec F S1024x2048 .bf16) (w : Vec F S2048x1024 .bf16) : Vec F S8x1024x128 .bf16 := View.canon (heads s w)

theorem read_heads (v : View sig .tc .vmem S8x1024x128 .bf16) (f : v.ty.Contents (Elt F)) (s : Vec F S1024x2048 .bf16) (w : Vec F S2048x1024 .bf16) :
    v.read (Elt F) (v.writes (Elt F) f (heads s w)) = headsOut s w :=
  View.read_writes_eq_canon v f (heads s w) fun y => View.cover_of_tiledL (heads s w) S1x1024x128.size (by sl_kernel_rfl) y

theorem read_gates (v : View sig .tc .vmem S1024x128 .f32) (f : v.ty.Contents (Elt F)) (w : Vec F S1024x128 .f32) :
    v.read (Elt F) (v.writes (Elt F) f [⟨Rect.unit ![0, 0] S1024x128.size inb_S1024x128_S1024x128_0_0, w⟩]) = w :=
  View.read_writes_full v f inb_S1024x128_S1024x128_0_0 w []

theorem read_rows (v : View sig .tc .vmem S1024x2048 .bf16) (f : v.ty.Contents (Elt F)) (w : Vec F S1024x2048 .bf16) :
    v.read (Elt F) (v.writes (Elt F) f [⟨Rect.unit ![0, 0] S1024x2048.size inb_S1024x2048_S1024x2048_0_0, w⟩]) = w :=
  View.read_writes_full v f inb_S1024x2048_S1024x2048_0_0 w []

/-! ## The proof data -/

abbrev scH : Memref sig .tc .vmem S1024x2048 .bf16 := Memref.whole cc0_scratch0

/-- The normalised rows of a point's row block, -/
def rowsAt (c : Dev nD) (t : Fin cfg0.N) : Vec F S1024x2048 .bf16 := k0_pay6 (iblk m c 0 (head t)) (iblk m c 1 (head t))
/-- their gate products, -/
def gatesAt (c : Dev nD) (t : Fin cfg0.N) : Vec F S1024x128 .f32 := k0_pay7 (iblk m c 0 (head t)) (iblk m c 1 (head t)) (iblk m c 3 (head t))
/-- and the block of heads that the point writes. -/
def headsAt (c : Dev nD) (t : Fin cfg0.N) : Vec F S8x1024x128 .bf16 := headsOut (rowsAt m c t) (iblk m c 2 t)

theorem rowsAt_prev (c : Dev nD) {t : Fin cfg0.N} (h : ¬ t.val % 6 = 0) : rowsAt m c (prev t) = rowsAt m c t := by
  unfold rowsAt; rw [head_prev h]

theorem gatesAt_prev (c : Dev nD) {t : Fin cfg0.N} (h : ¬ t.val % 6 = 0) : gatesAt m c (prev t) = gatesAt m c t := by
  unfold gatesAt; rw [head_prev h]

/-- Before point `n`: the carried buffer at the rows of the point before, and the generator register. -/
def carried (c : Dev nD) (n : ℕ) : sProp 𝕄 :=
  iprop((∃ s, ⌜∀ t : Fin cfg0.N, t.val + 1 = n → s = rowsAt m c t⌝ ∗ owns (c : Thread nD τ) scH fullShare s) ∗ (∃ r, prngReg c r))

/-- The class invariant with the carried buffer as a memref owned at some contents. -/
theorem PhiA_eq (c : Dev nD) :
    (Pipeline.ΦA spec0 c : sProp 𝕄)
      = iprop((∃ d, owns (c : Thread nD τ) scH fullShare d) ∗ (∃ r, prngReg c r)) := by
  unfold Pipeline.ΦA; rw [scopedRest0_eq]; simp only [scH, owns_whole]; try rfl

/-- The pipeline's proof data: each input's buffer stays at its block, the outputs' hold `headsAt` and `gatesAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => headsAt m c t
    | ⟨5, _⟩ => gatesAt m c t
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = headsAt m c t := by dsimp only [dats]
theorem after0_5 (c : Dev nD) (t : Fin cfg0.N) : (dats m 0 c).after 5 t = gatesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The gates' window is idle but at the first column blocks. -/
theorem idle_at (t : Fin cfg0.N) : cfg0.idle 5 (cfg0.grid.coords t) = !decide (t.val % 6 = 0) := by
  show (!(k0_cond1 (grid0.coords t) == 1#1)) = _
  congr 1
  by_cases h : t.val % 6 = 0
  · rw [(cond_at t).mpr h]; simp [h]
  · have := mt (cond_at t).mp h; simp [h, this]

/-- At a later column block the gates' buffer holds what the first one stored. -/
theorem before0_5 (c : Dev nD) (d) : ∀ (n : ℕ) (t : Fin cfg0.N), t.val = n → ¬ t.val % 6 = 0 → (dats m 0 c).before 5 t d = gatesAt m c t
  | 0, t, e, h => absurd (by omega) h
  | n + 1, t, e, h => by
    rw [Dat.before_of_pos _ 5 t (by omega) rfl, if_neg (fun hf => by have := (flush0_5 (prev t)).mp hf; have e' : (prev t).val = t.val - 1 := rfl; omega)]
    change (dats m 0 c).left 5 (prev t) d = _
    unfold Dat.left
    rw [idle_at]
    have e' : (prev t).val = t.val - 1 := rfl
    by_cases hp : (prev t).val % 6 = 0
    · rw [decide_eq_true hp]
      exact (after0_5 m c (prev t)).trans (gatesAt_prev m c h)
    · rw [decide_eq_false hp]
      exact (before0_5 c d n (prev t) (by omega) hp).trans (gatesAt_prev m c h)

/-! ## The body obligation -/
section

variable (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S8x1024x128 .bf16) (harg6 : arg6.IsWhole)
    (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x1024 .bf16) (x3 : Vec F S2048x128 .bf16) (s : Vec F S1024x2048 .bf16)

/-- The body at a first column block. -/
theorem stepA (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (headsOut (k0_pay6 x0 x1) x2)
          ∗ owns (c : Thread nD τ) arg7 fullShare (k0_pay7 x0 x1 x3)
          ∗ owns (c : Thread nD τ) arg8 fullShare (k0_pay6 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  have e4 := headsA c i arg2 harg2 arg3 harg3 arg4 harg4 arg5 harg5 arg6 harg6 arg7 harg7 arg8 harg8 hc x0 x1 x2 x3 s
  have e5 := gatesA c i arg2 harg2 arg3 harg3 arg4 harg4 arg5 harg5 arg6 harg6 arg7 harg7 arg8 harg8 hc x0 x1 x2 x3 s
  have es := rowsA c i arg2 harg2 arg3 harg3 arg4 harg4 arg5 harg5 arg6 harg6 arg7 harg7 arg8 harg8 hc x0 x1 x2 x3 s
  revert e4 e5 es
  generalize runA c i arg2 harg2 arg3 harg3 arg4 harg4 arg5 harg5 arg6 harg6 arg7 harg7 arg8 harg8 hc x0 x1 x2 x3 s = r
  obtain ⟨L4, L5, LS, h⟩ := r
  intro e4 e5 es
  dsimp only at e4 e5 es h
  subst e4 e5 es
  iintro ⟨H0, H1, H2, H3, H4, H5, HS, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, ⟨%e4, H4⟩, ⟨%e5, H5⟩, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact read_heads _ _ _ _
  isplitl [H5]
  · unfold owns; iexists _; isplitr
    swap; · iexact H5
    ipureintro; exact read_gates _ _ _
  · unfold owns; iexists _; isplitr
    swap; · iexact HS
    ipureintro; exact read_rows _ _ _

/-- The body at a later column block: it touches neither the gates' buffer nor the carried rows. -/
theorem stepB (hc : ¬ k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (headsOut s x2)
          ∗ owns (c : Thread nD τ) arg8 fullShare s) -∗ K ⟨⟩))
      ⊢ wp frame (wpE (defs₀ (F := F)) Variants.none c none) E (cc0_inproj i arg2 harg2 arg3 harg3 arg4 harg4 arg5 harg5 arg6 harg6 arg7 harg7 arg8 harg8) K := by
  have e4 := headsB c i arg2 harg2 arg3 harg3 arg4 harg4 arg5 harg5 arg6 harg6 arg7 harg7 arg8 harg8 hc x0 x1 x2 x3 s
  revert e4
  generalize runB c i arg2 harg2 arg3 harg3 arg4 harg4 arg5 harg5 arg6 harg6 arg7 harg7 arg8 harg8 hc x0 x1 x2 x3 s = r
  obtain ⟨L4, h⟩ := r
  intro e4
  dsimp only at e4 h
  subst e4
  iintro ⟨H0, H1, H2, H3, H4, HS, Hk⟩
  iapply (h E K)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact read_heads _ _ _ _
  iexact HS

end

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S8x1024x128 .bf16 := win0_4.stage (cfg0.slots t 4)
abbrev ms5 (t : Fin cfg0.N) : Memref sig .tc .vmem S1024x128 .f32 := win0_5.stage (cfg0.slots t 5)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it gives back: the gates' buffer at what the window's idle points ask of it. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

/-- The gates' buffer at the row block's gate products is what the obligation asks of it at every point. -/
theorem leaves_gates (c : Dev nD) (t : Fin cfg0.N) :
    owns (c : Thread nD τ) (ms5 t) fullShare (gatesAt m c t) ⊢ ((dats m 0 c).leavesExact 5 t : sProp 𝕄) := by
  unfold Dat.leavesExact
  rw [idle_at, after0_5]
  by_cases h : t.val % 6 = 0
  · rw [decide_eq_true h]; exact .rfl
  · rw [decide_eq_false h]
    cases hf : (cfg0.win 5).flush t with
    | true => exact .rfl
    | false =>
      show _ ⊢ iprop(∃ d, owns (c : Thread nD τ) (ms5 t) fullShare ((dats m 0 c).before 5 t d))
      iintro H
      iexists (gatesAt m c t)
      rw [before0_5 m c _ t.val t rfl h]
      iexact H

set_option maxHeartbeats 1000000 in
/-- The body at any point, from the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = carried m c t.val from rfl, show (dats m 0 c).Φ t.succ = carried m c (t.val + 1) from rfl,
    after0_0, after0_1, after0_2, after0_3, after0_4]
  unfold carried
  by_cases h0 : t.val % 6 = 0
  · iintro ⟨⟨⟨%s, %I, HS⟩, Hg⟩, Ho, ⟨%d0, H0⟩, ⟨%d1, H1⟩, ⟨%d2, H2⟩, ⟨%d3, H3⟩, ⟨%d4, H4⟩, ⟨%d5, H5⟩⟩
    iapply (stepA c (grid0.coords t) _ _ _ _ _ _ _ _ _ _ _ _ _ _ (iblk m c 0 t) (iblk m c 1 t) (iblk m c 2 t) (iblk m c 3 t) s ((cond_at t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexists _; isplitr
        swap; · iexact HS
        ipureintro; intro t' e; obtain rfl : t' = t := Fin.ext (by omega)
        rw [rowsAt, head_first h0]
      iexact Hg
    isplitl [Ho]; · iexact Ho
    isplitl [H0]; · iexact H0
    isplitl [H1]; · iexact H1
    isplitl [H2]; · iexact H2
    isplitl [H3]; · iexact H3
    isplitl [H4]
    · rw [headsAt, rowsAt, head_first h0]
      iexact H4
    iapply (leaves_gates m c t)
    rw [gatesAt, head_first h0]
    iexact H5
  · iintro ⟨⟨⟨%s, %I, HS⟩, Hg⟩, Ho, ⟨%d0, H0⟩, ⟨%d1, H1⟩, ⟨%d2, H2⟩, ⟨%d3, H3⟩, ⟨%d4, H4⟩, ⟨%d5, H5⟩⟩
    obtain rfl : s = rowsAt m c t := (I (prev t) (by have e : (prev t).val = t.val - 1 := rfl; omega)).trans (rowsAt_prev m c h0)
    rw [before0_5 m c d5 t.val t rfl h0]
    iapply (stepB c (grid0.coords t) _ _ _ _ _ _ _ _ _ _ _ _ _ _ (iblk m c 0 t) (iblk m c 1 t) (iblk m c 2 t) (iblk m c 3 t) (rowsAt m c t) (fun h => h0 ((cond_at t).mp h)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr
        swap; · iexact HS
        ipureintro; intro t' e; obtain rfl : t' = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    iapply (leaves_gates m c t)
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the carried buffer. -/
theorem hin (c : Dev nD) : Pipeline.ΦA spec0 c ⊢ (dats m 0 c).Φ 0 := by
  rw [show (dats m 0 c).Φ 0 = carried m c 0 from rfl, PhiA_eq]
  unfold carried
  iintro ⟨⟨%s, HS⟩, Hg⟩
  isplitl [HS]
  · iexists _; isplitr
    swap; · iexact HS
    ipureintro; intro t e; exact absurd e (Nat.succ_ne_zero _)
  iexact Hg

/-- After the last point the carried buffer is given back. -/
theorem hout (c : Dev nD) : (dats m 0 c).Φ (Fin.last cfg0.N) ⊢ Pipeline.ΦA spec0 c := by
  rw [show (dats m 0 c).Φ (Fin.last cfg0.N) = carried m c cfg0.N from rfl, PhiA_eq]
  unfold carried
  iintro ⟨⟨%s, %I, HS⟩, Hg⟩
  isplitl [HS]
  · iexists _; iexact HS
  iexact Hg

/-! ## The run and the frame -/

set_option backward.isDefEq.respectTransparency.types false in
/-- Every execution ends, with the arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InprojIdeal.Body

end
-- ==== Proof.InprojValue.lean ====
/- The input projection: the two arrays the kernel leaves, the heads and the gates' products, are the reference's. -/
module

public import proofs.«01_k».proof.Proof.InprojIdealFrame
public import proofs.«01_k».proof.Proof.Gen.InprojRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojRefIdeal.Value

open Cert.InprojRefIdeal Cert.InprojRefIdeal.Gen

/-- The normalised rows. -/
def HN (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- The reference's first result: the heads. -/
def HEADS (x : FVec Ideal S16384x2048 .f32) (g : FVec Ideal S1x2048 .f32) (w : FVec Ideal S2048x6144 .f32) : FVec Ideal S48x16384x128 .bf16 :=
  truncf .bf16 (transpose S48x16384x128 [1, 0, 2] (shapeCast S16384x48x128 (Host.dotGeneral dot_S16384x2048_S2048x6144_S16384x6144_1_0_0_1_n_n none (HN x g) w) shapeCasts_S16384x6144_S16384x48x128) transposes_S16384x48x128_S48x16384x128_1_0_2) bitsLt_bf16_f32

/-- The reference's second result: the gates' products. -/
def GATES (x : FVec Ideal S16384x2048 .f32) (g : FVec Ideal S1x2048 .f32) (wf : FVec Ideal S2048x128 .f32) : FVec Ideal S16384x128 .f32 :=
  Host.dotGeneral dot_S16384x2048_S2048x128_S16384x128_1_0_0_1_n_n none (HN x g) wf

/-- One element of the heads: of head `h`, the columns from `128 h`. -/
theorem heads_at (x : FVec Ideal S16384x2048 .f32) (g : FVec Ideal S1x2048 .f32) (w : FVec Ideal S2048x6144 .f32) (h : Fin 48) (r : Fin 16384) (n : Fin 128) :
    HEADS x g w (ix3 h r n) = ∑ k : Fin 2048, HN x g (ix2 r k) * w (ix2 k ⟨h.val * 128 + n.val, by omega⟩) := by
  unfold HEADS
  generalize HN x g = P
  pointwise []

/-- One element of the gates' products. -/
theorem gates_at (x : FVec Ideal S16384x2048 .f32) (g : FVec Ideal S1x2048 .f32) (wf : FVec Ideal S2048x128 .f32) (r : Fin 16384) (n : Fin 128) :
    GATES x g wf (ix2 r n) = ∑ k : Fin 2048, HN x g (ix2 r k) * wf (ix2 k n) := by
  unfold GATES
  generalize HN x g = P
  pointwise []

end Cert.InprojRefIdeal.Value

namespace Cert.InprojIdeal.Value

open Cert.InprojIdeal Cert.InprojIdeal.Gen Cert.InprojIdeal.Body Cert.InprojRefIdeal.Value

/-- One element of a block's product. -/
theorem acc_at (s : Vec Ideal S1024x2048 .bf16) (w : Vec Ideal S2048x1024 .bf16) (r n : Fin 1024) :
    k0_pay8 (F := Ideal) s w (ix2 r n) = ∑ k : Fin 2048, s (ix2 r k) * w (ix2 k n) := by
  pointwise [k0_pay8]

/-- The block of heads that a point writes, at an element: head `h` is the product's columns from `128 h`. -/
theorem headsOut_at (s : Vec Ideal S1024x2048 .bf16) (w : Vec Ideal S2048x1024 .bf16) (y : S8x1024x128.Idx) :
    headsOut (F := Ideal) s w y = ∑ k : Fin 2048, s (ix2 (y 1) k) * w (ix2 k ⟨(y 0).val * 128 + (y 2).val, by have h0 : (y 0).val < 8 := (y 0).isLt; have h2 : (y 2).val < 128 := (y 2).isLt; omega⟩) := by
  have h0 : (y 0).val < 8 := (y 0).isLt
  have h2 : (y 2).val < 128 := (y 2).isLt
  rw [← acc_at s w (y 1) ⟨(y 0).val * 128 + (y 2).val, by omega⟩]
  unfold headsOut heads k0_pay9 k0_pay10 k0_pay11 k0_pay12 k0_pay13
  generalize k0_pay8 (F := Ideal) s w = P
  canon_tiles y h
  all_goals
    pointwise [k0_pay1, k0_pay2, k0_pay3, k0_pay4]
    exact congrArg₂ (fun a b => P (ix2 a b)) (Fin.ext (by omega)) (Fin.ext (by simp only []; omega))

/-- Where each window's block sits at grid point `t`. -/
theorem idx : ∀ t : Fin cfg0.N, win0_0.index t = ![t.val / 6, 0] ∧ win0_1.index t = ![0, 0] ∧ win0_2.index t = ![0, t.val % 6]
    ∧ win0_3.index t = ![0, 0] ∧ win0_4.index t = ![t.val % 6, t.val / 6, 0] ∧ win0_5.index t = ![t.val / 6, 0] :=
  (by decide +kernel : ∀ t : Fin grid0.N, _)

variable (m : (ℓ : Loc nD τ sig) → Buf (Elt Ideal) ℓ)

/-- One element of a block's normalised rows is the whole array's. -/
theorem hn_at (c : Dev nD) (t : Fin cfg0.N) (r : Fin 1024) (k : Fin 2048) (R : Fin 16384) (hR : R.val = t.val / 6 * 1024 + r.val) :
    k0_pay5 (F := Ideal) (iblk m c 0 t) (iblk m c 1 t) (ix2 r k)
      = HN (m ((c : Thread nD τ).loc main_arg0)) (m ((c : Thread nD τ).loc main_arg1)) (ix2 R k) := by
  pointwise [k0_pay5, HN]
  blk_point [iblk, V, idx t]

/-- One element of a point's block of heads. -/
theorem point4 (c : Dev nD) (t : Fin cfg0.N) (y : S8x1024x128.Idx) (h : Fin 48) (R : Fin 16384) (n : Fin 128) (hh : h.val = t.val % 6 * 8 + (y 0).val)
    (hR : R.val = t.val / 6 * 1024 + (y 1).val) (hn : n.val = (y 2).val) : headsAt m c t y
    = HEADS (m ((c : Thread nD τ).loc main_arg0)) (m ((c : Thread nD τ).loc main_arg1)) (m ((c : Thread nD τ).loc main_arg2)) (ix3 h R n) := by
  have eh : (head t).val / 6 = t.val / 6 := by show t.val / 6 * 6 / 6 = _; omega
  rw [headsAt, headsOut_at, heads_at]
  refine Finset.sum_congr rfl fun k _ => congrArg₂ (· * ·) ?_ ?_
  · rw [← hn_at m c (head t) (y 1) k R (by rw [eh]; exact hR)]
    unfold rowsAt k0_pay6
    generalize k0_pay5 (F := Ideal) (iblk m c 0 (head t)) (iblk m c 1 (head t)) = P
    pointwise []
  · blk_point [iblk, V, idx t]

/-- The array of heads after the run. -/
theorem final4 (c : Dev nD) : (dats m 0 c).arrAt 4 (cfgs 0).N
    = HEADS (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have h0 : ((win0_4.blk t).view.emb y 0).val = t.val % 6 * 8 + (y 0).val := by blk_simp [idx t]
  have h1 : ((win0_4.blk t).view.emb y 1).val = t.val / 6 * 1024 + (y 1).val := by blk_simp [idx t]
  have h2 : ((win0_4.blk t).view.emb y 2).val = (y 2).val := by blk_simp [idx t]
  exact (point4 m c t y _ _ _ h0 h1 h2).trans (congrArg (HEADS _ _ _) (eq_ix3 (n0 := 48) (n1 := 16384) (n2 := 128) _).symm)

/-- One element of a point's block of gate products. -/
theorem point5 (c : Dev nD) (t : Fin cfg0.N) (r : Fin 1024) (n : Fin 128) (R : Fin 16384) (N : Fin 128)
    (hR : R.val = t.val / 6 * 1024 + r.val) (hN : N.val = n.val) : gatesAt m c t (ix2 r n)
    = GATES (m ((c : Thread nD τ).loc main_arg0)) (m ((c : Thread nD τ).loc main_arg1)) (m ((c : Thread nD τ).loc main_arg3)) (ix2 R N) := by
  have eh : (head t).val / 6 = t.val / 6 := by show t.val / 6 * 6 / 6 = _; omega
  have e := fun k => hn_at m c (head t) r k R (by rw [eh]; exact hR)
  rw [gatesAt, gates_at]
  simp only [← e]
  unfold k0_pay7
  generalize k0_pay5 (F := Ideal) (iblk m c 0 (head t)) (iblk m c 1 (head t)) = P
  pointwise []
  blk_point [iblk, V, idx (head t)]

/-- The array of gate products after the run. -/
theorem final5 (c : Dev nD) : (dats m 0 c).arrAt 5 (cfgs 0).N
    = GATES (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  have h0 : ((win0_5.blk t).view.emb y 0).val = t.val / 6 * 1024 + (y 0).val := by blk_simp [idx t]
  have h1 : ((win0_5.blk t).view.emb y 1).val = (y 1).val := by blk_simp [idx t]
  exact (congrArg (gatesAt m c t) (eq_ix2 (n0 := 1024) (n1 := 128) y)).trans
    ((point5 m c t _ _ _ _ h0 h1).trans (congrArg (GATES _ _ _) (eq_ix2 (n0 := 16384) (n1 := 128) _).symm))

end Cert.InprojIdeal.Value

end
-- ==== Proof.OutprojValue.lean ====
/- The output projection: the two arrays the kernel leaves are the reference's residual `x + [oa, ob, oc] · w` and its RMS
   normalisation. -/
module

public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutprojRefIdeal.Value

open Cert.OutprojRefIdeal Cert.OutprojRefIdeal.Gen

/-- The reference's first result: the residual. -/
def X1R (x : FVec Ideal S16384x2048 .f32) (oa : FVec Ideal S16384x768 .bf16) (ob oc : FVec Ideal S16384x640 .bf16) (w : FVec Ideal S2048x2048 .f32) : FVec Ideal S16384x2048 .f32 :=
  addf x (Host.dotGeneral dot_S16384x2048_S2048x2048_S16384x2048_1_0_0_1_n_n none (extf .f32 ((concatenate S16384x2048 1 [⟨S16384x768, (oa : (⟨S16384x768, .bf16⟩ : BufTy).Contents (Elt Ideal))⟩, ⟨S16384x640, (ob : (⟨S16384x640, .bf16⟩ : BufTy).Contents (Elt Ideal))⟩, ⟨S16384x640, (oc : (⟨S16384x640, .bf16⟩ : BufTy).Contents (Elt Ideal))⟩] concatenates_S16384x768_S16384x640_S16384x640_S16384x2048_d1 : (⟨S16384x2048, .bf16⟩ : BufTy).Contents (Elt Ideal))) bitsLt_bf16_f32) w)

/-- A sum over the 2048 columns of the concatenated heads, cut into its three pieces. -/
theorem sum_pieces (f : Fin 2048 → EReal) : ∑ k, f k = ∑ k : Fin 768, f ⟨k, by omega⟩ + ∑ k : Fin 640, f ⟨768 + k, by omega⟩
    + ∑ k : Fin 640, f ⟨1408 + k, by omega⟩ := by
  rw [← Fin.sum_congr' f (show 768 + 640 + 640 = 2048 by rfl), Fin.sum_univ_add, Fin.sum_univ_add]
  rfl

/-- One element of the residual: the three products with the three row blocks of the weight. -/
theorem x1_at (x : FVec Ideal S16384x2048 .f32) (oa : FVec Ideal S16384x768 .bf16) (ob oc : FVec Ideal S16384x640 .bf16)
    (w : FVec Ideal S2048x2048 .f32) (j : S16384x2048.Idx) : X1R x oa ob oc w j
      = x j + ∑ k : Fin 768, oa (ix2 (j 0) k) * w (ix2 ⟨k, by omega⟩ (j 1))
        + ∑ k : Fin 640, ob (ix2 (j 0) k) * w (ix2 ⟨768 + k, by omega⟩ (j 1))
        + ∑ k : Fin 640, oc (ix2 (j 0) k) * w (ix2 ⟨1408 + k, by omega⟩ (j 1)) := by
  pointwise [X1R]
  rw [sum_pieces]
  simp only [add_assoc]
  congr 2

/-- The reference's second result: the normalised residual. -/
abbrev HNR (x : FVec Ideal S16384x2048 .f32) (oa : FVec Ideal S16384x768 .bf16) (ob oc : FVec Ideal S16384x640 .bf16) (w : FVec Ideal S2048x2048 .f32) (g : FVec Ideal S1x2048 .f32) : FVec Ideal S16384x2048 .bf16 :=
  truncf .bf16 (mulf (mulf (X1R x oa ob oc w) (broadcastInDim S16384x2048 ![0, 1] bcast_S16384x1_S16384x2048_0_1 (Host.rsqrt (addf (Host.divf (broadcastInDim S16384x1 ![0] bcast_S16384_S16384x1_0 (Host.reduceAdd (mulf (X1R x oa ob oc w) (X1R x oa ob oc w)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) bitsLt_bf16_f32

end Cert.OutprojRefIdeal.Value

namespace Cert.OutprojIdeal.Value

open Cert.OutprojIdeal Cert.OutprojIdeal.Gen Cert.OutprojRefIdeal.Value

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- One element of the block of window 8 stored at point `t` is the reference's element there. -/
theorem point8 (c : Dev nD) (t : Fin cfg0.N) (y) : k0_pay1 (F := Ideal) (iblk m c 0 t) (iblk m c 1 t) (iblk m c 4 t) (iblk m c 2 t) (iblk m c 5 t) (iblk m c 3 t) (iblk m c 6 t) y
    = X1R (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  rw [x1_at]
  pointwise [k0_pay1]
  blk_point [iblk, V, idx t]

/-- The array of window 8 after the run. -/
theorem final8 (c : Dev nD) : (dats m 0 c).arrAt 8 (cfgs 0).N = X1R (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  exact point8 m c t y

/-- One element of the block of window 9 stored at point `t` is the reference's element there. -/
theorem point9 (c : Dev nD) (t : Fin cfg0.N) (y) : k0_pay2 (F := Ideal) (iblk m c 0 t) (iblk m c 1 t) (iblk m c 4 t) (iblk m c 2 t) (iblk m c 5 t) (iblk m c 3 t) (iblk m c 6 t) (iblk m c 7 t) y
    = HNR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  have h := fun y => point8 m c t y
  unfold k0_pay2 HNR
  generalize k0_pay1 (F := Ideal) (iblk m c 0 t) (iblk m c 1 t) (iblk m c 4 t) (iblk m c 2 t) (iblk m c 5 t) (iblk m c 3 t) (iblk m c 6 t) = P at h ⊢
  generalize X1R (m ((c : Thread nD τ).loc main_arg0)) (m ((c : Thread nD τ).loc main_arg1)) (m ((c : Thread nD τ).loc main_arg2)) (m ((c : Thread nD τ).loc main_arg3)) (m ((c : Thread nD τ).loc main_arg4)) = X at h ⊢
  obtain rfl : P = fun y => X (((cfg0.win 8).blk t).view.emb y) := funext h
  clear h
  pointwise []
  blk_point [iblk, V, idx t]

/-- The array of window 9 after the run. -/
theorem final9 (c : Dev nD) : (dats m 0 c).arrAt 9 (cfgs 0).N = HNR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  frame_out
  exact point9 m c t y

end Cert.OutprojIdeal.Value

end
-- ==== Proof.NormValue.lean ====
/- The closing RMS normalisation of a layer: the array the kernel leaves is the reference's. -/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen

/-- What the reference computes of its two arguments. -/
abbrev REF (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

end Cert.NormRefIdeal.Value

namespace Cert.NormIdeal.Value

open Cert.NormIdeal Cert.NormIdeal.Gen Cert.NormRefIdeal.Value

variable (m : (ℓ : Loc nD τ sig) → Buf (Elt Ideal) ℓ)

/-- Where each window's block sits at grid point `t`. -/
theorem idx : ∀ t : Fin cfg0.N, win0_0.index t = ![t.val, 0] ∧ win0_1.index t = ![0, 0] ∧ win0_2.index t = ![t.val, 0] :=
  (by decide +kernel : ∀ t : Fin grid0.N, _)

/-- One element of the block stored at point `t` is the reference's element there. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Value

end
-- ==== Proof.GateTiles.lean ====
/- The cumulative gates' kernel, in words: a block's sums, 128 positions at a time. -/
module

public import proofs.«01_k».proof.Proof.Gen.GateIdeal.Frame
public import proofs.«01_k».proof.Proof.StickRow
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.GateIdeal.Value

open Cert.GateIdeal Cert.GateIdeal.Gen
open Cert.StickRow (logSig log1m logSig_neg log1m_ne_top)

/-- The logits of 128 positions with their bias. -/
def BIASED (x : FVec Ideal S128x128 .f32) (b : FVec Ideal S1x128 .f32) : FVec Ideal S128x128 .f32 :=
  addf x (broadcastTo S128x128 b broadcasts_S1x128_S128x128)

/-- The logarithms of their sigmoids. -/
def LOGS (z : FVec Ideal S128x128 .f32) : FVec Ideal S128x128 .f32 :=
  subf (minimumf z (broadcast S128x128 (Scalar.ofBits .f32 0x00000000#32))) (log (addf (broadcast S128x128 (Scalar.ofBits .f32 0x3F800000#32)) (exp (subf (broadcast S128x128 (Scalar.ofBits .f32 0x00000000#32)) (absf z)))))

/-- A logarithm's first rounding. -/
def LOW (x : FVec Ideal S128x128 .f32) : FVec Ideal S128x128 .bf16 := truncf .bf16 x bitsLt_bf16_f32

/-- What the rounding leaves. -/
def REST (x : FVec Ideal S128x128 .f32) : FVec Ideal S128x128 .f32 := subf x (extf .f32 (LOW x) bitsLt_bf16_f32)

/-- A product with ones on and below the diagonal. -/
def PREFIX (x : FVec Ideal S128x128 .bf16) : FVec Ideal S128x128 .f32 :=
  matmul dot_S128x128_S128x128_S128x128_1_0_0_1_n_n none (k0_pay2 (F := Ideal)) x (constant S128x128 .f32 0x00000000#32)

/-- The sums of the first, second and third parts of the logarithms. -/
def SPLIT (x : FVec Ideal S128x128 .f32) : FVec Ideal S128x128 .f32 :=
  addf (addf (PREFIX (LOW x)) (PREFIX (LOW (REST x)))) (PREFIX (LOW (REST (REST x))))

/-- The sums of 128 positions, from the sum before them. -/
def STEP (c : FVec Ideal S1x128 .f32) (x : FVec Ideal S128x128 .f32) (b : FVec Ideal S1x128 .f32) : FVec Ideal S128x128 .f32 :=
  addf (SPLIT (LOGS (BIASED x b))) (broadcastTo S128x128 c broadcasts_S1x128_S128x128)

/-- The sum at the last of them. -/
def LAST (s : FVec Ideal S128x128 .f32) : FVec Ideal S1x128 .f32 := extractStridedSlice S1x128 ![127, 0] s slices_S128x128_o127_0_S1x128

/-- The first eight gates' sums, a column for each position. -/
def TURN (s : FVec Ideal S128x128 .f32) : FVec Ideal S1x8x128 .f32 :=
  shapeCast S1x8x128 (extractStridedSlice S8x128 ![0, 0] (transpose S128x128 [1, 0] s transposes_S128x128_p1_0_S128x128) slices_S128x128_o0_0_S8x128) shapeCasts_S8x128_S1x8x128

/-- Before the first position. -/
def NONE : FVec Ideal S1x128 .f32 := broadcast S1x128 (Scalar.ofBits .f32 0x00000000#32)

theorem biased_at (x : FVec Ideal S128x128 .f32) (b : FVec Ideal S1x128 .f32) (r n : Fin 128) : BIASED x b (ix2 r n) = x (ix2 r n) + b (ix2 0 n) := by
  pointwise [BIASED]

theorem logs_eq (z : FVec Ideal S128x128 .f32) (r n : Fin 128) :
    LOGS z (ix2 r n) = min (z (ix2 r n)) 0 - Ideal.log (1 + Ideal.exp (0 - max (z (ix2 r n)) (-z (ix2 r n)))) := by
  pointwise [LOGS]
  rfl

/-- The two ways to write the logarithm of the sigmoid. -/
theorem logSig_eq (x : EReal) : min x 0 - Ideal.log (1 + Ideal.exp (0 - max x (-x))) = logSig x := by
  have h := logSig_neg (-x)
  rw [neg_neg] at h
  rw [h]
  unfold log1m
  rw [zero_sub (-x), neg_neg, max_comm x (-x)]

theorem logSig_ne_top (x : EReal) : logSig x ≠ ⊤ := by
  have h := logSig_neg (-x)
  rw [neg_neg] at h
  rw [h]
  exact log1m_ne_top _

theorem logs_at (z : FVec Ideal S128x128 .f32) (r n : Fin 128) : LOGS z (ix2 r n) = logSig (z (ix2 r n)) :=
  (logs_eq z r n).trans (logSig_eq _)

theorem low_at (x : FVec Ideal S128x128 .f32) (r n : Fin 128) : LOW x (ix2 r n) = x (ix2 r n) := by
  pointwise [LOW]

theorem rest_at (x : FVec Ideal S128x128 .f32) (r n : Fin 128) : REST x (ix2 r n) = x (ix2 r n) - x (ix2 r n) := by
  pointwise [REST, LOW]

theorem ones_at (r k : Fin 128) : k0_pay2 (F := Ideal) (ix2 r k) = if k.val ≤ r.val then (1 : EReal) else 0 := by
  pointwise [k0_pay2]
  rw [WordCmp.cmpi_sle_ofNat (by omega) (by omega), WordCmp.select_ofBool]
  simp only [decide_eq_true_eq]

theorem prefix_at (x : FVec Ideal S128x128 .bf16) (r n : Fin 128) : PREFIX x (ix2 r n) = ∑ k : Fin 128, (if k.val ≤ r.val then (1 : EReal) else 0) * x (ix2 k n) := by
  unfold PREFIX
  have h := ones_at r
  generalize k0_pay2 (F := Ideal) = S at h
  pointwise [h]

/-- A number and two remainders of its rounding, exact as it is here, against a factor of zero or one. -/
theorem split_mul (x : EReal) (hx : x ≠ ⊤) (p : Prop) [Decidable p] :
    (if p then 1 else 0) * x + (if p then 1 else 0) * (x - x) + (if p then 1 else 0) * ((x - x) - (x - x)) = if p then x else 0 := by
  split
  · rw [one_mul, one_mul, one_mul]
    induction x with
    | bot => rfl
    | top => exact absurd rfl hx
    | coe r => rw [← EReal.coe_sub, sub_self, EReal.coe_zero, sub_zero, add_zero, add_zero]
  · rw [zero_mul, zero_mul, zero_mul, add_zero, add_zero]

theorem split_at (x : FVec Ideal S128x128 .f32) (r n : Fin 128) (hx : ∀ k, x (ix2 k n) ≠ ⊤) : SPLIT x (ix2 r n) = ∑ k : Fin 128, if k.val ≤ r.val then x (ix2 k n) else 0 := by
  show PREFIX (LOW x) (ix2 r n) + PREFIX (LOW (REST x)) (ix2 r n) + PREFIX (LOW (REST (REST x))) (ix2 r n) = _
  rw [prefix_at, prefix_at, prefix_at, ← Finset.sum_add_distrib, ← Finset.sum_add_distrib]
  refine Finset.sum_congr rfl fun k _ => ?_
  rw [low_at, low_at, low_at, rest_at, rest_at, rest_at]
  exact split_mul _ (hx k) _

theorem add_at (s : FVec Ideal S128x128 .f32) (c : FVec Ideal S1x128 .f32) (r n : Fin 128) : addf s (broadcastTo S128x128 c broadcasts_S1x128_S128x128) (ix2 r n) = s (ix2 r n) + c (ix2 0 n) := by
  pointwise []

theorem step_at (c : FVec Ideal S1x128 .f32) (x : FVec Ideal S128x128 .f32) (b : FVec Ideal S1x128 .f32) (r n : Fin 128) :
    STEP c x b (ix2 r n) = (∑ k : Fin 128, if k.val ≤ r.val then logSig (x (ix2 k n) + b (ix2 0 n)) else 0) + c (ix2 0 n) := by
  have h : ∀ k, LOGS (BIASED x b) (ix2 k n) = logSig (x (ix2 k n) + b (ix2 0 n)) := fun k => (logs_at _ k n).trans (congrArg logSig (biased_at x b k n))
  refine (add_at _ c r n).trans (congrArg (· + _) ?_)
  refine (split_at _ r n fun k => by rw [h]; exact logSig_ne_top _).trans ?_
  simp only [h]

theorem last_at (s : FVec Ideal S128x128 .f32) (n : Fin 128) : LAST s (ix2 0 n) = s (ix2 ⟨127, by omega⟩ n) := by
  pointwise [LAST]

theorem turn_at (s : FVec Ideal S128x128 .f32) (n : Fin 8) (k : Fin 128) : TURN s (ix3 0 n k) = s (ix2 k ⟨n.val, by omega⟩) := by
  pointwise [TURN]

theorem none_at (n : Fin 128) : NONE (ix2 0 n) = 0 := by
  pointwise [NONE]

/-- Read through a rectangle of rows, a block gives its rows from `a` on. -/
theorem ld_rows (x : Vec Ideal S2048x128 .f32) (a : ℕ) (h) (ha : a + 128 ≤ 2048) (r n : Fin 128) :
    View.ld x (Rect.unit ![a, 0] S128x128.size h) (ix2 r n) = x (ix2 ⟨a + r.val, by omega⟩ n) := by
  refine View.ld_unit_apply_of x _ _ h (ix2 r n) (ix2 ⟨a + r.val, by omega⟩ n) fun u => ?_
  fin_cases u
  · rfl
  · exact (Nat.zero_add _).symm

/-- The block's logarithms: gate `n` at position `k`. -/
def blockLogs (x : Vec Ideal S2048x128 .f32) (b : Vec Ideal S1x128 .f32) (n : Fin 128) (k : ℕ) : EReal :=
  if h : k < 2048 then logSig (x (ix2 ⟨k, h⟩ n) + b (ix2 0 n)) else 0

theorem blockLogs_of (x : Vec Ideal S2048x128 .f32) (b : Vec Ideal S1x128 .f32) (n : Fin 128) (k : ℕ) (h : k < 2048) :
    blockLogs x b n k = logSig (x (ix2 ⟨k, h⟩ n) + b (ix2 0 n)) := dif_pos h

/-- `s` holds the block's sums at the 128 positions from `a` on. -/
def Sums (x : Vec Ideal S2048x128 .f32) (b : Vec Ideal S1x128 .f32) (a : ℕ) (s : FVec Ideal S128x128 .f32) : Prop :=
  ∀ r n : Fin 128, s (ix2 r n) = ∑ k ∈ Finset.range (a + r.val + 1), blockLogs x b n k

/-- A step's sums, from the sum before them; the bias may come as another row that holds the same. -/
theorem step_sums (x : Vec Ideal S2048x128 .f32) (b : Vec Ideal S1x128 .f32) (a : ℕ) (ha : a + 128 ≤ 2048) (c : FVec Ideal S1x128 .f32)
    (hc : ∀ n, c (ix2 0 n) = ∑ k ∈ Finset.range a, blockLogs x b n k) (h) (b' : FVec Ideal S1x128 .f32) (hb : ∀ n, b' (ix2 0 n) = b (ix2 0 n)) :
    Sums x b a (STEP c (View.ld x (Rect.unit ![a, 0] S128x128.size h)) b') := fun r n => by
  rw [step_at, hc, hb, add_comm, show a + r.val + 1 = a + (r.val + 1) from rfl, Finset.sum_range_add]
  refine congrArg (_ + ·) ?_
  have hk : ∀ k : Fin 128, (if k.val ≤ r.val then logSig (View.ld x (Rect.unit ![a, 0] S128x128.size h) (ix2 k n) + b (ix2 0 n)) else 0) = if k.val < r.val + 1 then blockLogs x b n (a + k.val) else 0 := fun k =>
    if_congr (by omega) ((congrArg (fun z => logSig (z + b (ix2 0 n))) (ld_rows x a h ha k n)).trans (blockLogs_of x b n (a + k.val) (by omega)).symm) rfl
  rw [Finset.sum_congr rfl fun k _ => hk k, ← Finset.sum_range fun k => if k < r.val + 1 then blockLogs x b n (a + k) else 0, ← Finset.sum_filter]
  refine Finset.sum_congr (Finset.ext fun k => ?_) fun _ _ => rfl
  simp only [Finset.mem_filter, Finset.mem_range]
  omega

/-- The first 128 positions. -/
theorem first (x : Vec Ideal S2048x128 .f32) (b : Vec Ideal S1x128 .f32) (h) (b' : FVec Ideal S1x128 .f32) (hb : ∀ n, b' (ix2 0 n) = b (ix2 0 n)) :
    Sums x b 0 (STEP NONE (View.ld x (Rect.unit ![0, 0] S128x128.size h)) b') :=
  step_sums x b 0 (by decide) NONE (fun n => (none_at n).trans (Finset.sum_range_zero _).symm) h b' hb

/-- The next 128 positions. -/
theorem Sums.next {x : Vec Ideal S2048x128 .f32} {b : Vec Ideal S1x128 .f32} {a : ℕ} {s : FVec Ideal S128x128 .f32} (hs : Sums x b a s) (e : ℕ) (he : a + 128 = e ∧ e + 128 ≤ 2048) (h)
    (b' : FVec Ideal S1x128 .f32) (hb : ∀ n, b' (ix2 0 n) = b (ix2 0 n)) : Sums x b e (STEP (LAST s) (View.ld x (Rect.unit ![e, 0] S128x128.size h)) b') :=
  step_sums x b e he.2 (LAST s) (fun n => (last_at s n).trans ((hs _ n).trans (by rw [← he.1]))) h b' hb

theorem inb_rows {a : ℕ} (h : a + 128 ≤ 2048) : ∀ u, (![a, 0] : Fin 2 → ℕ) u + S128x128.size u ≤ S2048x128.size u := by
  intro u
  fin_cases u
  · exact h
  · exact le_refl _

/-- The bias, read whole. -/
theorem bias_at (b : Vec Ideal S1x128 .f32) (h) (n : Fin 128) : View.ld b (Rect.unit ![0, 0] S1x128.size h) (ix2 0 n) = b (ix2 0 n) := by
  refine View.ld_unit_apply_of b _ _ h (ix2 0 n) (ix2 0 n) fun u => ?_
  fin_cases u
  · rfl
  · exact (Nat.zero_add _).symm

/-- The sums of the 128 positions from `128 * n` on, as the kernel makes them. -/
def tile (x : Vec Ideal S2048x128 .f32) (b : Vec Ideal S1x128 .f32) : (n : ℕ) → 128 * n + 128 ≤ 2048 → FVec Ideal S128x128 .f32
  | 0, h => STEP NONE (View.ld x (Rect.unit ![128 * 0, 0] S128x128.size (inb_rows h))) (View.ld b r0_1)
  | n + 1, h => STEP (LAST (tile x b n (by omega))) (View.ld x (Rect.unit ![128 * (n + 1), 0] S128x128.size (inb_rows h))) (View.ld b r0_1)

theorem tile_sums (x : Vec Ideal S2048x128 .f32) (b : Vec Ideal S1x128 .f32) : (n : ℕ) → (h : 128 * n + 128 ≤ 2048) → Sums x b (128 * n) (tile x b n h)
  | 0, h => first x b (inb_rows h) _ (bias_at b _)
  | n + 1, h => (tile_sums x b n (by omega)).next (128 * (n + 1)) ⟨by omega, h⟩ (inb_rows h) _ (bias_at b _)

/-- What a grid point leaves for the queries. -/
def OUTCOL (x : Vec Ideal S2048x128 .f32) (b : Vec Ideal S1x128 .f32) : Vec Ideal S2048x128 .f32 := fun z => ∑ k ∈ Finset.range ((z 0).val + 1), blockLogs x b (z 1) k

/-- What a grid point leaves for the keys. -/
def OUTROW (x : Vec Ideal S2048x128 .f32) (b : Vec Ideal S1x128 .f32) : Vec Ideal S1x8x2048 .f32 :=
  fun z => ∑ k ∈ Finset.range ((z 2).val + 1), blockLogs x b ⟨(z 1).val, lt_of_lt_of_le (z 1).isLt (by decide)⟩ k

theorem Sums.col {x : Vec Ideal S2048x128 .f32} {b : Vec Ideal S1x128 .f32} {a : ℕ} {s : FVec Ideal S128x128 .f32} (hs : Sums x b a s) (y : S128x128.Idx) (z : S2048x128.Idx)
    (h0 : (z 0).val = a + (y 0).val) (h1 : (z 1).val = (y 1).val) : s y = OUTCOL x b z := by
  unfold OUTCOL
  rw [h0, show z 1 = y 1 from Fin.ext h1]
  exact (congrArg s (eq_ix2 (n0 := 128) (n1 := 128) y)).trans (hs (y 0) (y 1))

theorem Sums.row {x : Vec Ideal S2048x128 .f32} {b : Vec Ideal S1x128 .f32} {a : ℕ} {s : FVec Ideal S128x128 .f32} (hs : Sums x b a s) (y : S1x8x128.Idx) (z : S1x8x2048.Idx)
    (h1 : (z 1).val = (y 1).val) (h2 : (z 2).val = a + (y 2).val) : TURN s y = OUTROW x b z := by
  have hy : y = ix3 0 (y 1) (y 2) := (eq_ix3 (n0 := 1) (n1 := 8) (n2 := 128) y).trans (congrArg (ix3 · (y 1) (y 2)) (Subsingleton.elim (α := Fin 1) _ _))
  unfold OUTROW
  rw [h2]
  refine (congrArg (TURN s) hy).trans ((turn_at s (y 1) (y 2)).trans ((hs (y 2) _).trans ?_))
  exact Finset.sum_congr rfl fun k _ => congrArg (blockLogs x b · k) (Fin.ext h1.symm)

end Cert.GateIdeal.Value

end
-- ==== Proof.GateBlock.lean ====
/- The cumulative gates' kernel: the two blocks one grid point leaves. -/
module

public import proofs.«01_k».proof.Proof.Gen.GateIdeal.Value
public import proofs.«01_k».proof.Proof.GateTiles

@[expose] public section

set_option maxRecDepth 65536
set_option maxHeartbeats 4000000

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- The block a grid point leaves for the queries. -/
theorem col_at (c : Dev nD) (t : Fin cfg0.N) (y : S2048x128.Idx) :
    (dats m 0 c).after 2 t y = OUTCOL (iblk m c 0 t) (iblk m c 1 t) y := by
  rw [after0_2]
  frame_out
  generalize iblk m c 0 t = X0
  generalize iblk m c 1 t = X1
  canon_tiles y h
  case piece0 =>
    exact ((tile_sums X0 X1 14 (by decide)).next 1920 (by decide) _ _ (fun _ => rfl)).col _ _ h0 h1
  case piece1 =>
    exact ((tile_sums X0 X1 13 (by decide)).next 1792 (by decide) _ _ (bias_at X1 _)).col _ _ h0 h1
  case piece2 =>
    exact ((tile_sums X0 X1 12 (by decide)).next 1664 (by decide) _ _ (bias_at X1 _)).col _ _ h0 h1
  case piece3 =>
    exact ((tile_sums X0 X1 11 (by decide)).next 1536 (by decide) _ _ (bias_at X1 _)).col _ _ h0 h1
  case piece4 =>
    exact ((tile_sums X0 X1 10 (by decide)).next 1408 (by decide) _ _ (bias_at X1 _)).col _ _ h0 h1
  case piece5 =>
    exact ((tile_sums X0 X1 9 (by decide)).next 1280 (by decide) _ _ (bias_at X1 _)).col _ _ h0 h1
  case piece6 =>
    exact ((tile_sums X0 X1 8 (by decide)).next 1152 (by decide) _ _ (fun _ => rfl)).col _ _ h0 h1
  case piece7 =>
    exact ((tile_sums X0 X1 7 (by decide)).next 1024 (by decide) _ _ (fun _ => rfl)).col _ _ h0 h1
  case piece8 =>
    exact ((tile_sums X0 X1 6 (by decide)).next 896 (by decide) _ _ (fun _ => rfl)).col _ _ h0 h1
  case piece9 =>
    exact ((tile_sums X0 X1 5 (by decide)).next 768 (by decide) _ _ (bias_at X1 _)).col _ _ h0 h1
  case piece10 =>
    exact ((tile_sums X0 X1 4 (by decide)).next 640 (by decide) _ _ (bias_at X1 _)).col _ _ h0 h1
  case piece11 =>
    exact ((tile_sums X0 X1 3 (by decide)).next 512 (by decide) _ _ (bias_at X1 _)).col _ _ h0 h1
  case piece12 =>
    exact ((tile_sums X0 X1 2 (by decide)).next 384 (by decide) _ _ (bias_at X1 _)).col _ _ h0 h1
  case piece13 =>
    exact ((tile_sums X0 X1 1 (by decide)).next 256 (by decide) _ _ (fun _ => rfl)).col _ _ h0 h1
  case piece14 =>
    exact ((tile_sums X0 X1 0 (by decide)).next 128 (by decide) _ _ (fun _ => rfl)).col _ _ h0 h1
  case piece15 =>
    exact (first X0 X1 _ _ fun _ => rfl).col _ _ (h0.trans (Nat.zero_add _).symm) h1

/-- The block a grid point leaves for the keys. -/
theorem row_at (c : Dev nD) (t : Fin cfg0.N) (y : S1x8x2048.Idx) :
    (dats m 0 c).after 3 t y = OUTROW (iblk m c 0 t) (iblk m c 1 t) y := by
  rw [after0_3]
  frame_out
  generalize iblk m c 0 t = X0
  generalize iblk m c 1 t = X1
  canon_tiles y h
  case piece0 =>
    exact ((tile_sums X0 X1 14 (by decide)).next 1920 (by decide) _ _ (fun _ => rfl)).row _ _ h1 h2
  case piece1 =>
    exact ((tile_sums X0 X1 13 (by decide)).next 1792 (by decide) _ _ (bias_at X1 _)).row _ _ h1 h2
  case piece2 =>
    exact ((tile_sums X0 X1 12 (by decide)).next 1664 (by decide) _ _ (bias_at X1 _)).row _ _ h1 h2
  case piece3 =>
    exact ((tile_sums X0 X1 11 (by decide)).next 1536 (by decide) _ _ (bias_at X1 _)).row _ _ h1 h2
  case piece4 =>
    exact ((tile_sums X0 X1 10 (by decide)).next 1408 (by decide) _ _ (bias_at X1 _)).row _ _ h1 h2
  case piece5 =>
    exact ((tile_sums X0 X1 9 (by decide)).next 1280 (by decide) _ _ (bias_at X1 _)).row _ _ h1 h2
  case piece6 =>
    exact ((tile_sums X0 X1 8 (by decide)).next 1152 (by decide) _ _ (fun _ => rfl)).row _ _ h1 h2
  case piece7 =>
    exact ((tile_sums X0 X1 7 (by decide)).next 1024 (by decide) _ _ (fun _ => rfl)).row _ _ h1 h2
  case piece8 =>
    exact ((tile_sums X0 X1 6 (by decide)).next 896 (by decide) _ _ (fun _ => rfl)).row _ _ h1 h2
  case piece9 =>
    exact ((tile_sums X0 X1 5 (by decide)).next 768 (by decide) _ _ (bias_at X1 _)).row _ _ h1 h2
  case piece10 =>
    exact ((tile_sums X0 X1 4 (by decide)).next 640 (by decide) _ _ (bias_at X1 _)).row _ _ h1 h2
  case piece11 =>
    exact ((tile_sums X0 X1 3 (by decide)).next 512 (by decide) _ _ (bias_at X1 _)).row _ _ h1 h2
  case piece12 =>
    exact ((tile_sums X0 X1 2 (by decide)).next 384 (by decide) _ _ (bias_at X1 _)).row _ _ h1 h2
  case piece13 =>
    exact ((tile_sums X0 X1 1 (by decide)).next 256 (by decide) _ _ (fun _ => rfl)).row _ _ h1 h2
  case piece14 =>
    exact ((tile_sums X0 X1 0 (by decide)).next 128 (by decide) _ _ (fun _ => rfl)).row _ _ h1 h2
  case piece15 =>
    exact (first X0 X1 _ _ fun _ => rfl).row _ _ h1 (h2.trans (Nat.zero_add _).symm)

end Cert.GateIdeal.Value

end
-- ==== Proof.Cumsum.lean ====
/- The cumulative sum along the middle axis, which prints as a sum over windows that reach back before the array, at an
   element. -/
module

public import proofs.«01_k».proof.Proof.RevCumsum

@[expose] public section

noncomputable section

open Idealize.ShloMosaic

namespace Cert.Cumsum

theorem ix3_one {N : ℕ} (a c : Fin 1) (k : Fin N) : ix3 (n0 := 1) (n1 := N) (n2 := 1) 0 k 0 = ix3 a k c := by
  rw [Subsingleton.elim a 0, Subsingleton.elim c 0]

/-- The window's positions are those of its middle axis. -/
def midAxis (N : ℕ) : (⟨3, ![1, N, 1]⟩ : Shape).Idx ≃ Fin N where
  toFun i := i 1
  invFun k := ix3 0 k 0
  left_inv i := (ix3_one (i 0) (i 2) (i 1)).trans (eq_ix3 (n0 := 1) (n1 := N) (n2 := 1) i).symm
  right_inv _ := rfl

/-- One term of a window's sum, of a window that begins `M` places before the element. -/
def term {A N C : ℕ} (M : ℕ) (x : FVec Ideal (⟨3, ![A, N, C]⟩ : Shape) .f32) (a : Fin A) (k : Fin N) (c : Fin C) (w : (⟨3, ![1, N, 1]⟩ : Shape).Idx) : EReal :=
  let p : Fin 3 → ℕ := fun u => ((ix3 a k c : (⟨3, ![A, N, C]⟩ : Shape).Idx) u).val * (![1, 1, 1] : Fin 3 → ℕ) u + (w u).val
  if hin : ∀ u, (![0, M, 0] : Fin 3 → ℕ) u ≤ p u ∧ p u - (![0, M, 0] : Fin 3 → ℕ) u < (⟨3, ![A, N, C]⟩ : Shape).size u then x (fun u => ⟨p u - (![0, M, 0] : Fin 3 → ℕ) u, (hin u).2⟩) else (0 : EReal)

/-- It is the element that far on from the window's beginning, or nothing before the array. -/
theorem term_at {A N C M : ℕ} (hM : M + 1 = N) (x : FVec Ideal (⟨3, ![A, N, C]⟩ : Shape) .f32) (f : ℕ → EReal) (a : Fin A) (k : Fin N) (c : Fin C) (hf : ∀ n : Fin N, x (ix3 a n c) = f n.val) (n : Fin N) :
    term M x a k c (ix3 0 n 0) = if M ≤ k.val + n.val then f (k.val + n.val - M) else 0 := by
  unfold term
  dsimp only
  split
  · next hin =>
    have h1 : M ≤ k.val * 1 + n.val := (hin 1).1
    rw [if_pos (by omega)]
    refine Eq.trans (congrArg x ?_) (hf ⟨k.val + n.val - M, by omega⟩)
    funext u
    refine Fin.ext ?_
    fin_cases u
    · exact (show a.val * 1 + 0 - 0 = a.val by omega)
    · exact (show k.val * 1 + n.val - M = k.val + n.val - M by omega)
    · exact (show c.val * 1 + 0 - 0 = c.val by omega)
  · next hin =>
    refine (if_neg fun hn => hin fun u => ?_).symm
    fin_cases u
    · exact (show 0 ≤ a.val * 1 + 0 ∧ a.val * 1 + 0 - 0 < A by have := a.isLt; omega)
    · exact (show M ≤ k.val * 1 + n.val ∧ k.val * 1 + n.val - M < N by omega)
    · exact (show 0 ≤ c.val * 1 + 0 ∧ c.val * 1 + 0 - 0 < C by have := c.isLt; omega)

/-- Element `k` of the cumulative sum is the sum of the elements up to `k`. -/
theorem at_ {A N C M : ℕ} (hM : M + 1 = N) (x : FVec Ideal (⟨3, ![A, N, C]⟩ : Shape) .f32) (init : (⟨0, ![]⟩ : Shape).Idx → Ideal .f32) (h) (hu) (h0 : init (Shape.Idx.first hu) = (0 : EReal))
    (f : ℕ → EReal) (a : Fin A) (k : Fin N) (c : Fin C) (hf : ∀ n : Fin N, x (ix3 a n c) = f n.val) :
    Host.reduceWindowAdd (t := ⟨3, ![A, N, C]⟩) ![1, N, 1] ![1, 1, 1] ![0, M, 0] ![0, 0, 0] x init h hu (ix3 a k c) = ∑ n ∈ Finset.range (k.val + 1), f n := by
  show Host.reduceWindow (fun p q : EReal => p + q) (t := ⟨3, ![A, N, C]⟩) ![1, N, 1] ![1, 1, 1] ![0, M, 0] ![0, 0, 0] x (fun _ : (⟨0, ![]⟩ : Shape).Idx => init (Shape.Idx.first hu)) h (by decide) (ix3 a k c) = _
  unfold Host.reduceWindow
  simp only [h0]
  refine (RevCumsum.foldl_add _ _ _).trans ?_
  rw [zero_add, ← List.ofFn_eq_map, List.sum_ofFn]
  refine (Equiv.sum_comp (⟨3, ![1, N, 1]⟩ : Shape).rowMajor.symm (term M x a k c)).trans ?_
  refine (Equiv.sum_comp (midAxis N).symm (term M x a k c)).symm.trans ?_
  refine (Finset.sum_congr rfl fun n _ => (show term M x a k c ((midAxis N).symm n) = _ from term_at hM x f a k c hf n)).trans ?_
  rw [← Finset.sum_range fun n => if M ≤ k.val + n then f (k.val + n - M) else 0, ← Finset.sum_filter]
  refine Finset.sum_nbij' (fun n => k.val + n - M) (fun n => n + M - k.val) ?_ ?_ ?_ ?_ fun _ _ => rfl
  all_goals intro n hn; simp only [Finset.mem_filter, Finset.mem_range] at hn ⊢; omega

end Cert.Cumsum

end
-- ==== Proof.GateRefSteps.lean ====
/- The cumulative gates' reference as a composition of its steps, and at an element. -/
module

public import proofs.«01_k».proof.Proof.Gen.GateRefIdeal.Run
public import proofs.«01_k».proof.Proof.StickRow
public import proofs.«01_k».proof.Proof.Cumsum
public import Idealize.ShloMosaic.Lib.Pointwise

@[expose] public section

set_option maxRecDepth 16384

noncomputable section

open Idealize.ShloMosaic Idealize.ShloMosaic.TcCoe Idealize.SL.Sem

namespace Cert.GateRefIdeal.Value

open Cert.GateRefIdeal Cert.GateRefIdeal.Gen
open Cert.StickRow (softplus logSig)

/-- Zeros. -/
def ZEROS : FVec Ideal S16384x128 .f32 := broadcastInDim S16384x128 ![] bcast_S_S16384x128 (constant S_ .f32 0x00000000#32)

/-- The logits with their bias. -/
def BIASED (f : FVec Ideal S16384x128 .f32) (b : FVec Ideal S1x128 .f32) : FVec Ideal S16384x128 .f32 :=
  addf f (broadcastInDim S16384x128 ![0, 1] bcast_S1x128_S16384x128_0_1 b)

/-- The logarithm of the sigmoid. -/
def LOGSIG (z : FVec Ideal S16384x128 .f32) : FVec Ideal S16384x128 .f32 :=
  Host.negf (select (cmpf .une (subf (Host.negf z) ZEROS) (subf (Host.negf z) ZEROS)) (addf (Host.negf z) ZEROS) (addf (maximumf (Host.negf z) ZEROS) (Host.log1p (Host.exp (Host.negf (Host.absf (subf (Host.negf z) ZEROS)))))))

/-- The sum along each sequence. -/
def CUM (y : FVec Ideal S16384x128 .f32) : FVec Ideal S8x2048x128 .f32 :=
  Host.reduceWindowAdd ![1, 2048, 1] ![1, 1, 1] ![0, 2047, 0] ![0, 0, 0] (shapeCast S8x2048x128 y shapeCasts_S16384x128_S8x2048x128) (broadcastInDim S_ ![] bcast_S_S_ (constant S_ .f32 0x00000000#32)) reduceWindows_S8x2048x128_S8x2048x128_w1s1p0_0_w2048s1p2047_0_w1s1p0_0 h_S_

/-- The sums, a row for each position. -/
def COL (f : FVec Ideal S16384x128 .f32) (b : FVec Ideal S1x128 .f32) : FVec Ideal S16384x128 .f32 :=
  shapeCast S16384x128 (CUM (LOGSIG (BIASED f b))) shapeCasts_S8x2048x128_S16384x128

/-- The first eight gates' sums, a column for each position. -/
def ROW (f : FVec Ideal S16384x128 .f32) (b : FVec Ideal S1x128 .f32) : FVec Ideal S8x8x2048 .f32 :=
  transpose S8x8x2048 [0, 2, 1] (extractStridedSlice S8x2048x8 ![0, 0, 0] (CUM (LOGSIG (BIASED f b))) slices_S8x2048x128_S8x2048x8_0_0_0) transposes_S8x2048x8_S8x8x2048_0_2_1

/-- The logarithm of gate `n`'s sigmoid at position `k` of sequence `q`. -/
def logs (f : FVec Ideal S16384x128 .f32) (b : FVec Ideal S1x128 .f32) (q : Fin 8) (n : Fin 128) (k : ℕ) : EReal :=
  if h : k < 2048 then logSig (f (ix2 ⟨q.val * 2048 + k, by omega⟩ n) + b (ix2 0 n)) else 0

theorem logs_of (f : FVec Ideal S16384x128 .f32) (b : FVec Ideal S1x128 .f32) (q : Fin 8) (n : Fin 128) (k : ℕ) (h : k < 2048) :
    logs f b q n k = logSig (f (ix2 ⟨q.val * 2048 + k, by omega⟩ n) + b (ix2 0 n)) := dif_pos h

theorem logsig_at (z : FVec Ideal S16384x128 .f32) (r : Fin 16384) (n : Fin 128) : LOGSIG z (ix2 r n) = logSig (z (ix2 r n)) := by
  unfold logSig softplus
  pointwise [LOGSIG, ZEROS]
  rw [if_neg (not_not.mpr rfl)]
  rfl

theorem biased_at (f : FVec Ideal S16384x128 .f32) (b : FVec Ideal S1x128 .f32) (r : Fin 16384) (n : Fin 128) : BIASED f b (ix2 r n) = f (ix2 r n) + b (ix2 0 n) := by
  pointwise [BIASED]

/-- The rows of the array, by sequence. -/
theorem split_at (y : FVec Ideal S16384x128 .f32) (q : Fin 8) (k : Fin 2048) (n : Fin 128) :
    shapeCast S8x2048x128 y shapeCasts_S16384x128_S8x2048x128 (ix3 q k n) = y (ix2 ⟨q.val * 2048 + k.val, by omega⟩ n) := by
  pointwise []

/-- A sequence's sum at an element. -/
theorem cum_at (f : FVec Ideal S16384x128 .f32) (b : FVec Ideal S1x128 .f32) (q : Fin 8) (k : Fin 2048) (n : Fin 128) :
    CUM (LOGSIG (BIASED f b)) (ix3 q k n) = ∑ i ∈ Finset.range (k.val + 1), logs f b q n i :=
  Cumsum.at_ (M := 2047) rfl _ _ _ _ (by pointwise []) (logs f b q n) q k n fun i =>
    (split_at _ q i n).trans ((logsig_at _ _ n).trans ((congrArg logSig (biased_at f b _ n)).trans (logs_of f b q n i.val i.isLt).symm))

/-- The first result at an element. -/
theorem col_at (f : FVec Ideal S16384x128 .f32) (b : FVec Ideal S1x128 .f32) (r : Fin 16384) (n : Fin 128) :
    COL f b (ix2 r n) = ∑ i ∈ Finset.range (r.val % 2048 + 1), logs f b ⟨r.val / 2048, by omega⟩ n i := by
  have h := cum_at f b
  unfold COL
  generalize CUM (LOGSIG (BIASED f b)) = y at h
  pointwise [h]

/-- The second result at an element. -/
theorem row_at (f : FVec Ideal S16384x128 .f32) (b : FVec Ideal S1x128 .f32) (q n : Fin 8) (k : Fin 2048) :
    ROW f b (ix3 q n k) = ∑ i ∈ Finset.range (k.val + 1), logs f b q ⟨n.val, by omega⟩ i := by
  have h := cum_at f b
  unfold ROW
  generalize CUM (LOGSIG (BIASED f b)) = y at h
  pointwise [h]

/-- The reference's run, its results in these words. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = COL (m ((c.tc : Thread nD τ).loc main_arg0)) (m ((c.tc : Thread nD τ).loc main_arg1))
      ∧ r.2.mem ((c.tc : Thread nD τ).loc main_v7) = ROW (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (run m ρ)

end Cert.GateRefIdeal.Value

end
-- ==== Proof.GateValue.lean ====
/- The cumulative gates: the two arrays the kernel leaves are the reference's. -/
module

public import proofs.«01_k».proof.Proof.GateBlock
public import proofs.«01_k».proof.Proof.GateRefSteps

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen
open Cert.StickRow (logSig)
open Cert.GateRefIdeal.Value (COL ROW logs)

variable (m : (ℓ : Loc nD τ sig) → Buf (Elt Ideal) ℓ)

/-- The blocks' indices: point `t` is sequence `t`. -/
theorem idx : ∀ t : Fin cfg0.N, win0_0.index t = ![t.val, 0] ∧ win0_1.index t = ![0, 0] ∧ win0_2.index t = ![t.val, 0] ∧ win0_3.index t = ![t.val, 0, 0] :=
  (by decide +kernel : ∀ t : Fin grid0.N, _)

/-- The logits. -/
theorem f_at (c : Dev nD) (t : Fin cfg0.N) (i : Fin 2048) (n : Fin 128) (R : Fin 16384) (hR : R.val = t.val * 2048 + i.val) :
    (iblk m c 0 t : Vec Ideal S2048x128 .f32) (ix2 i n) = m ((c : Thread nD τ).loc main_arg0) (ix2 R n) := by
  blk_point [iblk, V, idx t]

/-- The bias. -/
theorem b_at (c : Dev nD) (t : Fin cfg0.N) (n : Fin 128) :
    (iblk m c 1 t : Vec Ideal S1x128 .f32) (ix2 0 n) = m ((c : Thread nD τ).loc main_arg1) (ix2 0 n) := by
  blk_point [iblk, V, idx t]

/-- The block's logarithms are the sequence's. -/
theorem logs_blk (c : Dev nD) (t : Fin cfg0.N) (q : Fin 8) (hq : q.val = t.val) (n : Fin 128) (k : ℕ) :
    blockLogs (iblk m c 0 t) (iblk m c 1 t) n k = logs (m ((c : Thread nD τ).loc main_arg0)) (m ((c : Thread nD τ).loc main_arg1)) q n k := by
  unfold blockLogs logs
  refine dite_congr rfl (fun h => ?_) (fun _ => rfl)
  exact congrArg logSig (congrArg₂ (· + ·) (f_at m c t _ n _ (by simp only [hq])) (b_at m c t n))

/-- One element of the block left for the queries is the reference's element there. -/
theorem col_point (c : Dev nD) (t : Fin cfg0.N) (y : S2048x128.Idx) (R : Fin 16384) (N : Fin 128) (hR : R.val = t.val * 2048 + (y 0).val) (hN : N.val = (y 1).val) :
    (dats m 0 c).after 2 t y = COL (m ((c : Thread nD τ).loc main_arg0)) (m ((c : Thread nD τ).loc main_arg1)) (ix2 R N) := by
  have hy0 : (y 0).val < 2048 := (y 0).isLt
  refine Eq.trans (α := EReal) (col_at m c t y) ?_
  rw [Cert.GateRefIdeal.Value.col_at, show R.val % 2048 = (y 0).val by omega, show N = y 1 from Fin.ext hN]
  exact Finset.sum_congr rfl fun k _ => logs_blk m c t _ (show R.val / 2048 = t.val by omega) _ k

/-- One element of the block left for the keys is the reference's element there. -/
theorem row_point (c : Dev nD) (t : Fin cfg0.N) (y : S1x8x2048.Idx) (Q N : Fin 8) (K : Fin 2048) (hQ : Q.val = t.val) (hN : N.val = (y 1).val) (hK : K.val = (y 2).val) :
    (dats m 0 c).after 3 t y = ROW (m ((c : Thread nD τ).loc main_arg0)) (m ((c : Thread nD τ).loc main_arg1)) (ix3 Q N K) := by
  refine Eq.trans (α := EReal) (row_at m c t y) ?_
  rw [Cert.GateRefIdeal.Value.row_at, hK]
  exact Finset.sum_congr rfl fun k _ => (logs_blk m c t Q hQ _ k).trans (congrArg (logs _ _ Q · k) (Fin.ext hN.symm))

/-- The first result array after the run. -/
theorem final2 (c : Dev nD) : (dats m 0 c).arrAt 2 (cfgs 0).N = COL (m ((c : Thread nD τ).loc main_arg0)) (m ((c : Thread nD τ).loc main_arg1)) := by
  refine (dats m 0 c).arrAt_eq_of_covers 2 _ (by decide +kernel) fun t _ y => ?_
  blk_simp
  have h0 : ((win0_2.blk t).view.emb y 0).val = t.val * 2048 + (y 0).val := by blk_simp [idx t]
  have h1 : ((win0_2.blk t).view.emb y 1).val = (y 1).val := by blk_simp [idx t]
  exact (col_point m c t y _ _ h0 h1).trans (congrArg (COL _ _) (eq_ix2 (n0 := 16384) (n1 := 128) _).symm)

/-- The second result array after the run. -/
theorem final3 (c : Dev nD) : (dats m 0 c).arrAt 3 (cfgs 0).N = ROW (m ((c : Thread nD τ).loc main_arg0)) (m ((c : Thread nD τ).loc main_arg1)) := by
  refine (dats m 0 c).arrAt_eq_of_covers 3 _ (by decide +kernel) fun t _ y => ?_
  blk_simp
  have h0 : ((win0_3.blk t).view.emb y 0).val = t.val := by blk_simp [idx t]
  have h1 : ((win0_3.blk t).view.emb y 1).val = (y 1).val := by blk_simp [idx t]
  have h2 : ((win0_3.blk t).view.emb y 2).val = (y 2).val := by blk_simp [idx t]
  exact (row_point m c t y _ _ _ h0 h1 h2).trans (congrArg (ROW _ _) (eq_ix3 (n0 := 8) (n1 := 8) (n2 := 2048) _).symm)

end Cert.GateIdeal.Value

end
-- ==== Proof.lean ====
module

public import proofs.«01_k».proof.Defs
public import proofs.«01_k».proof.Proof.Gen.Down.Frame
public import proofs.«01_k».proof.Proof.DownValue
public import proofs.«01_k».proof.Proof.Gen.Fox.Frame
public import proofs.«01_k».proof.Proof.FoxValue
public import proofs.«01_k».proof.Proof.Gen.Stick.Frame
public import proofs.«01_k».proof.Proof.StickValue
public import proofs.«01_k».proof.Proof.UpFrame
public import proofs.«01_k».proof.Proof.UpValue
public import proofs.«01_k».proof.Proof.InprojFrame
public import proofs.«01_k».proof.Proof.InprojValue
public import proofs.«01_k».proof.Proof.Gen.Outproj.Frame
public import proofs.«01_k».proof.Proof.OutprojValue
public import proofs.«01_k».proof.Proof.Gen.Norm.Frame
public import proofs.«01_k».proof.Proof.NormValue
public import proofs.«01_k».proof.Proof.Gen.Gate.Frame
public import proofs.«01_k».proof.Proof.GateValue
public import proofs.«01_k».proof.Proof.Gen.Dil.Frame
public import proofs.«01_k».proof.Proof.Gen.DilIdeal.Frame
public import Idealize.ShloMosaic.Lib.Claim
public import Idealize.ShloMosaic.Adequacy
public import Idealize.ShloMosaic.Init

@[expose] public section

noncomputable section

namespace Cert.Proof

open Idealize.ShloMosaic Idealize.SL.Sem

/-- The reference of `Down` runs, leaves its arguments unchanged and every counter at zero. -/
theorem frame_down_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The down projection: kernel and reference leave the same array. -/
theorem algebraic_down : Cert.algebraic_DownIdeal_DownRefIdeal := by
  pair_intro
  · run_from Cert.DownIdeal.Gen.run_main m g
  · run_from Cert.DownRefIdeal.Value.run m' g'
    exact (Cert.DownIdeal.Value.final m c).symm

/-- The reference of `Fox` runs, leaves its arguments unchanged and every counter at zero. -/
theorem frame_fox_ref : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The forgetting attention: kernel and reference leave the same array. -/
theorem algebraic_fox : Cert.algebraic_FoxIdeal_FoxRefIdeal := by
  pair_intro
  · run_from Cert.FoxIdeal.Gen.run_main m g
  · run_from Cert.FoxRefIdeal.Value.run m' g'
    rw [Cert.FoxRefIdeal.Value.res_eq, Cert.FoxIdeal.Value.final m c, ← (hagree c).1, ← (hagree c).2.1, ← (hagree c).2.2.1, ← (hagree c).2.2.2]

/-- The reference of `Stick` runs, leaves its arguments unchanged and every counter at zero. -/
theorem frame_stick_ref : Cert.quiescent_StickRefIdeal := fun m ρ _ =>
  (θ_run Cert.StickRefIdeal.defs _ _).mono (fun r h => ⟨fun c => (h c).2, sem_eq_zero_of_no_sems (by decide) r.2⟩)
    (Cert.StickRefIdeal.Value.run (F := Ideal) m ρ)

/-- The stick-breaking attention: kernel and reference leave the same array. -/
theorem algebraic_stick : Cert.algebraic_StickIdeal_StickRefIdeal := by
  pair_intro
  · run_from Cert.StickIdeal.Gen.run_main m g
  · run_from Cert.StickRefIdeal.Value.run m' g'
    rw [Cert.StickRefIdeal.Value.res_eq, Cert.StickIdeal.Value.final m c, ← (hagree c).1, ← (hagree c).2]

/-- The reference of `Up` runs, leaves its arguments unchanged and every counter at zero. -/
theorem frame_up_ref : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The up projection: kernel and reference leave the same gated hidden array. -/
theorem algebraic_up : Cert.algebraic_UpIdeal_UpRefIdeal := by
  pair_intro
  · run_from Cert.UpIdeal.Body.run_main m g
  · run_from Cert.UpRefIdeal.Value.run m' g'
    rw [Cert.UpRefIdeal.Value.res_eq, Cert.UpIdeal.Value.final m c, ← (hagree c).1, ← (hagree c).2.1, ← (hagree c).2.2.1, ← (hagree c).2.2.2]

/-- The reference of `Inproj` runs, leaves its arguments unchanged and every counter at zero. -/
theorem frame_inproj_ref : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)

/-- The input projection: kernel and reference leave the same heads and the same gate logits. -/
theorem algebraic_inproj : Cert.algebraic_InprojIdeal_InprojRefIdeal := by
  pair_intro
  · run_from Cert.InprojIdeal.Body.run_main m g
  · run_from Cert.InprojRefIdeal.Value.run m' g'
    · rw [Cert.InprojIdeal.Value.final4 m c, ← (hagree c).1, ← (hagree c).2.1, ← (hagree c).2.2.1]
      rfl
    · rw [Cert.InprojIdeal.Value.final5 m c, ← (hagree c).1, ← (hagree c).2.1, ← (hagree c).2.2.2]
      rfl

/-- The reference of `Outproj` runs, leaves its arguments unchanged and every counter at zero. -/
theorem frame_outproj_ref : Cert.quiescent_OutprojRefIdeal := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- The output projection: kernel and reference leave the same residual and the same normalised residual. -/
theorem algebraic_outproj : Cert.algebraic_OutprojIdeal_OutprojRefIdeal := by
  pair_intro
  · run_from Cert.OutprojIdeal.Gen.run_main m g
  · run_from Cert.OutprojRefIdeal.Value.run m' g'
    · rw [Cert.OutprojIdeal.Value.final8 m c, ← (hagree c).2.1, ← (hagree c).2.2.1, ← (hagree c).2.2.2.1]
      rfl
    · rw [Cert.OutprojIdeal.Value.final9 m c, ← (hagree c).2.1, ← (hagree c).2.2.1, ← (hagree c).2.2.2.1]
      rfl

/-- The reference of `Norm` runs, leaves its arguments unchanged and every counter at zero. -/
theorem frame_norm_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The closing normalisation: kernel and reference leave the same array. -/
theorem algebraic_norm : Cert.algebraic_NormIdeal_NormRefIdeal := by
  pair_intro
  · run_from Cert.NormIdeal.Gen.run_main m g
  · run_from Cert.NormRefIdeal.Value.run m' g'
    exact (Cert.NormIdeal.Value.final m c).symm

/-- The reference of `Gate` runs, leaves its arguments unchanged and every counter at zero. -/
theorem frame_gate_ref : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- The cumulative gates: kernel and reference leave the same sums, by query and by key. -/
theorem algebraic_gate : Cert.algebraic_GateIdeal_GateRefIdeal := by
  intro m g m' g' _ hagree
  refine ⟨fun c => Cert.GateRefIdeal.Value.COL (m ((c.tc : Thread Cert.GateIdeal.nD Cert.GateIdeal.τ).loc Cert.GateIdeal.main_arg0)) (m ((c.tc : Thread Cert.GateIdeal.nD Cert.GateIdeal.τ).loc Cert.GateIdeal.main_arg1)),
    fun c => Cert.GateRefIdeal.Value.ROW (m ((c.tc : Thread Cert.GateIdeal.nD Cert.GateIdeal.τ).loc Cert.GateIdeal.main_arg0)) (m ((c.tc : Thread Cert.GateIdeal.nD Cert.GateIdeal.τ).loc Cert.GateIdeal.main_arg1)),
    θ_run_mono (Cert.GateIdeal.Value.run_blocks m g) fun r h c => ⟨(h c).1.trans (Cert.GateIdeal.Value.final2 m c), (h c).2.1.trans (Cert.GateIdeal.Value.final3 m c), (h c).2.2⟩,
    θ_run_mono (Cert.GateRefIdeal.Value.run_named m' g') fun r h c => ⟨(h c).1.trans ?_, (h c).2.1.trans ?_, (h c).2.2⟩⟩
  · exact congrArg₂ Cert.GateRefIdeal.Value.COL (hagree c).1 (hagree c).2
  · exact congrArg₂ Cert.GateRefIdeal.Value.ROW (hagree c).1 (hagree c).2

/-- Every claim of this directory. -/
theorem claim : Cert.Claim :=
  ⟨Cert.Down.Gen.facts, Cert.DownIdeal.Gen.facts, Cert.DownRefIdeal.Gen.facts, Cert.Fox.Gen.facts, Cert.FoxIdeal.Gen.facts, Cert.FoxRefIdeal.Gen.facts, Cert.Stick.Gen.facts, Cert.StickIdeal.Gen.facts, Cert.StickRefIdeal.Gen.facts, Cert.Up.Gen.facts, Cert.UpIdeal.Gen.facts, Cert.UpRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Norm.Gen.facts, Cert.NormIdeal.Gen.facts, Cert.NormRefIdeal.Gen.facts, Cert.Gate.Gen.facts, Cert.GateIdeal.Gen.facts, Cert.GateRefIdeal.Gen.facts, Cert.Dil.Gen.facts, Cert.DilIdeal.Gen.facts,
    fun m ρ _ => Cert.Down.Gen.frame m ρ, fun m ρ _ => Cert.DownIdeal.Gen.frame m ρ, frame_down_ref,
    fun m ρ _ => Cert.Fox.Gen.frame m ρ, fun m ρ _ => Cert.FoxIdeal.Gen.frame m ρ, frame_fox_ref,
    fun m ρ _ => Cert.Stick.Gen.frame m ρ, fun m ρ _ => Cert.StickIdeal.Gen.frame m ρ, frame_stick_ref,
    fun m ρ _ => Cert.Up.Body.frame m ρ, fun m ρ _ => Cert.UpIdeal.Body.frame m ρ, frame_up_ref,
    fun m ρ _ => Cert.Inproj.Body.frame m ρ, fun m ρ _ => Cert.InprojIdeal.Body.frame m ρ, frame_inproj_ref,
    fun m ρ _ => Cert.Outproj.Gen.frame m ρ, fun m ρ _ => Cert.OutprojIdeal.Gen.frame m ρ, frame_outproj_ref,
    fun m ρ _ => Cert.Norm.Gen.frame m ρ, fun m ρ _ => Cert.NormIdeal.Gen.frame m ρ, frame_norm_ref,
    fun m ρ _ => Cert.Gate.Gen.frame m ρ, fun m ρ _ => Cert.GateIdeal.Gen.frame m ρ, frame_gate_ref,
    fun m ρ _ => Cert.Dil.Gen.frame m ρ, fun m ρ _ => Cert.DilIdeal.Gen.frame m ρ,
    trivial, algebraic_down,
    IdealRules.named_const.statement Cert.FoxIdeal.κ "mask" .f32 0xF149F2CA#32 ⊥ rfl, algebraic_fox,
    trivial, algebraic_stick,
    trivial, algebraic_up,
    trivial, algebraic_inproj,
    trivial, algebraic_outproj,
    trivial, algebraic_norm,
    trivial, algebraic_gate,
    IdealRules.named_const.statement Cert.DilIdeal.κ "mask" .f32 0xF149F2CA#32 ⊥ rfl⟩

end Cert.Proof

end
